-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 1000#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x1000 : Shape := ⟨2, ![16384, 1000]⟩
abbrev S16384 : Shape := ⟨1, ![16384]⟩
abbrev S1000x16384 : Shape := ⟨2, ![1000, 16384]⟩
abbrev S16x1x1024 : Shape := ⟨3, ![16, 1, 1024]⟩
abbrev S1x1 : Shape := ⟨2, ![1, 1]⟩
abbrev S1x1x1024 : Shape := ⟨3, ![1, 1, 1024]⟩
abbrev S1000x1024 : Shape := ⟨2, ![1000, 1024]⟩
abbrev S16x1024 : Shape := ⟨2, ![16, 1024]⟩
abbrev S1024 : Shape := ⟨1, ![1024]⟩
abbrev S1x1024 : Shape := ⟨2, ![1, 1024]⟩
abbrev S8x1024 : Shape := ⟨2, ![8, 1024]⟩
abbrev S1x16x1024 : Shape := ⟨3, ![1, 16, 1024]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S16x1x1024, .i32⟩
  | .hbm, ⟨4, _⟩ => ⟨S1x1, .f32⟩
  | .hbm, ⟨5, _⟩ => ⟨S_, .f32⟩
  | .local _ .vmem, ⟨0, _⟩ => ⟨S1x1x1024, .i32⟩
  | .local _ .vmem, ⟨1, _⟩ => ⟨S1x1x1024, .i32⟩
  | .local _ .vmem, ⟨2, _⟩ => ⟨S1000x1024, .f32⟩
  | .local _ .vmem, ⟨3, _⟩ => ⟨S1000x1024, .f32⟩
  | .local _ .vmem, ⟨4, _⟩ => ⟨S1x1, .f32⟩
  | .local _ .vmem, ⟨5, _⟩ => ⟨S16x1024, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v1386 : Index := Scalar.indexCast arg0
  let c0_256 : Index := 0#32
  ![v1386.toNat, 0]
def k0_cond1 (i : grid0.Coords) : BitVec 1 :=
  let arg0 : BitVec 32 := BitVec.ofNat 32 (i 0).val
  let c15_i32 : BitVec 32 := 15#32
  let v1390 : BitVec 1 := Scalar.cmpi .eq arg0 c15_i32
  let v1391 : BitVec 32 := Scalar.extui v1390
  let c0_i32_257 : BitVec 32 := 0#32
  let v1392 : BitVec 1 := Scalar.cmpi .ne v1391 c0_i32_257
  v1392

@[reducible] def k0_t1_loop : Scf.Loop 32 :=
  let c0_i32_262 : BitVec 32 := 0#32
  let c16384_i32 : BitVec 32 := 16384#32
  let v1404 : BitVec 32 := Scalar.addi c0_i32_262 c16384_i32
  let c1_i32 : BitVec 32 := 1#32
  ⟨c0_i32_262, v1404, c1_i32⟩
@[reducible] def k0_t2_loop : Scf.Loop 32 :=
  let c0_i32_265 : BitVec 32 := 0#32
  let c31_i32 : BitVec 32 := 31#32
  let v1406 : BitVec 32 := Scalar.addi c0_i32_265 c31_i32
  let c1_i32_266 : BitVec 32 := 1#32
  ⟨c0_i32_265, v1406, c1_i32_266⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S1x1000 : Shape := ⟨2, ![1, 1000]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1000, .f32⟩
  | .hbm, ⟨15, _⟩ => ⟨S16384x1000, .f32⟩
  | .hbm, ⟨16, _⟩ => ⟨S16384x1, .i32⟩
  | .hbm, ⟨17, _⟩ => ⟨S1x1000, .i32⟩
  | .hbm, ⟨18, _⟩ => ⟨S16384x1000, .i32⟩
  | .hbm, ⟨19, _⟩ => ⟨S16384x1000, .i32⟩
  | .hbm, ⟨20, _⟩ => ⟨S16384x1000, .i1⟩
  | .hbm, ⟨21, _⟩ => ⟨S16384x1000, .f32⟩
  | .hbm, ⟨22, _⟩ => ⟨S16384x1000, .f32⟩
  | .hbm, ⟨23, _⟩ => ⟨S16384x1000, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S4096, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S_, .f32⟩
  | .hbm, ⟨38, _⟩ => ⟨S4096, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_values : Ref sig .tc := ⟨.hbm, 27, rfl⟩
abbrev main_indices : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Proof.Rows.lean ====
/- The row of losses one grid point of the kernel stores, as a function of the point's label block and class block: the printed
   payloads of the body's parts composed over the chunks of eight classes its loads read. -/
module

public import proofs.«01_k».proof.Proof.Gen.KernelIdeal.Skeleton
public import Idealize.ShloMosaic.Lib.Pipeline.FrameBody

@[expose] public section

noncomputable section

namespace Cert.KernelIdeal.Rows

open Idealize.ShloMosaic Idealize.ShloMosaic.TcCoe Cert.KernelIdeal Cert.KernelIdeal.Gen

variable {F : FTy → Type} [FloatOps F]

/-- The eight rows of the class block that start at row `o`. -/
def ck (x1 : Vec F S1000x1024 .f32) (o : ℕ) (h : ∀ a, (![o, 0] : Fin 2 → Nat) a + S8x1024.size a ≤ S1000x1024.size a) : Vec F S8x1024 .f32 :=
  View.ld (Val := Elt F) (S := S1000x1024) (e' := .f32) x1 (Rect.unit (s := S1000x1024) ![o, 0] S8x1024.size h)

/-- The row numbers of a chunk of eight rows. -/
def io : IVec S8x1024 32 := iota .tc S8x1024 32 [0] iota_S8x1024_d0_w32

/-- The sums of the exponentials after the first three chunks. -/
def s3 (x1 : Vec F S1000x1024 .f32) : FVec F S8x1024 .f32 := k0_pay14 (ck x1 0 inb_S1000x1024_S8x1024_0_0) (ck x1 8 inb_S1000x1024_S8x1024_8_0) (ck x1 16 inb_S1000x1024_S8x1024_16_0)
/-- The label's logits picked out of the first three chunks. -/
def l3 (x0 : Vec F S1x1x1024 .i32) (x1 : Vec F S1000x1024 .f32) : FVec F S8x1024 .f32 := k0_pay15 x0 (ck x1 0 inb_S1000x1024_S8x1024_0_0) (ck x1 8 inb_S1000x1024_S8x1024_8_0) (ck x1 16 inb_S1000x1024_S8x1024_16_0)

/-- The sums of the exponentials after 7 chunks. -/
def s7 (x1 : Vec F S1000x1024 .f32) : FVec F S8x1024 .f32 := k0_pay20 (s3 x1) (ck x1 24 inb_S1000x1024_S8x1024_24_0) (ck x1 32 inb_S1000x1024_S8x1024_32_0) (ck x1 40 inb_S1000x1024_S8x1024_40_0) (ck x1 48 inb_S1000x1024_S8x1024_48_0)
/-- The label's logits picked out of 7 chunks. -/
def l7 (x0 : Vec F S1x1x1024 .i32) (x1 : Vec F S1000x1024 .f32) : FVec F S8x1024 .f32 := k0_pay21 (k0_pay10 x0) io (l3 x0 x1) (ck x1 24 inb_S1000x1024_S8x1024_24_0) (ck x1 32 inb_S1000x1024_S8x1024_32_0) (ck x1 40 inb_S1000x1024_S8x1024_40_0) (ck x1 48 inb_S1000x1024_S8x1024_48_0)

/-- The sums of the exponentials after 11 chunks. -/
def s11 (x1 : Vec F S1000x1024 .f32) : FVec F S8x1024 .f32 := k0_pay26 (s7 x1) (ck x1 56 inb_S1000x1024_S8x1024_56_0) (ck x1 64 inb_S1000x1024_S8x1024_64_0) (ck x1 72 inb_S1000x1024_S8x1024_72_0) (ck x1 80 inb_S1000x1024_S8x1024_80_0)
/-- The label's logits picked out of 11 chunks. -/
def l11 (x0 : Vec F S1x1x1024 .i32) (x1 : Vec F S1000x1024 .f32) : FVec F S8x1024 .f32 := k0_pay27 (k0_pay10 x0) io (l7 x0 x1) (ck x1 56 inb_S1000x1024_S8x1024_56_0) (ck x1 64 inb_S1000x1024_S8x1024_64_0) (ck x1 72 inb_S1000x1024_S8x1024_72_0) (ck x1 80 inb_S1000x1024_S8x1024_80_0)

/-- The sums of the exponentials after 15 chunks. -/
def s15 (x1 : Vec F S1000x1024 .f32) : FVec F S8x1024 .f32 := k0_pay32 (s11 x1) (ck x1 88 inb_S1000x1024_S8x1024_88_0) (ck x1 96 inb_S1000x1024_S8x1024_96_0) (ck x1 104 inb_S1000x1024_S8x1024_104_0) (ck x1 112 inb_S1000x1024_S8x1024_112_0)
/-- The label's logits picked out of 15 chunks. -/
def l15 (x0 : Vec F S1x1x1024 .i32) (x1 : Vec F S1000x1024 .f32) : FVec F S8x1024 .f32 := k0_pay33 (k0_pay10 x0) io (l11 x0 x1) (ck x1 88 inb_S1000x1024_S8x1024_88_0) (ck x1 96 inb_S1000x1024_S8x1024_96_0) (ck x1 104 inb_S1000x1024_S8x1024_104_0) (ck x1 112 inb_S1000x1024_S8x1024_112_0)

/-- The sums of the exponentials after 19 chunks. -/
def s19 (x1 : Vec F S1000x1024 .f32) : FVec F S8x1024 .f32 := k0_pay38 (s15 x1) (ck x1 120 inb_S1000x1024_S8x1024_120_0) (ck x1 128 inb_S1000x1024_S8x1024_128_0) (ck x1 136 inb_S1000x1024_S8x1024_136_0) (ck x1 144 inb_S1000x1024_S8x1024_144_0)
/-- The label's logits picked out of 19 chunks. -/
def l19 (x0 : Vec F S1x1x1024 .i32) (x1 : Vec F S1000x1024 .f32) : FVec F S8x1024 .f32 := k0_pay39 (k0_pay10 x0) io (l15 x0 x1) (ck x1 120 inb_S1000x1024_S8x1024_120_0) (ck x1 128 inb_S1000x1024_S8x1024_128_0) (ck x1 136 inb_S1000x1024_S8x1024_136_0) (ck x1 144 inb_S1000x1024_S8x1024_144_0)

/-- The sums of the exponentials after 23 chunks. -/
def s23 (x1 : Vec F S1000x1024 .f32) : FVec F S8x1024 .f32 := k0_pay44 (s19 x1) (ck x1 152 inb_S1000x1024_S8x1024_152_0) (ck x1 160 inb_S1000x1024_S8x1024_160_0) (ck x1 168 inb_S1000x1024_S8x1024_168_0) (ck x1 176 inb_S1000x1024_S8x1024_176_0)
/-- The label's logits picked out of 23 chunks. -/
def l23 (x0 : Vec F S1x1x1024 .i32) (x1 : Vec F S1000x1024 .f32) : FVec F S8x1024 .f32 := k0_pay45 (k0_pay10 x0) io (l19 x0 x1) (ck x1 152 inb_S1000x1024_S8x1024_152_0) (ck x1 160 inb_S1000x1024_S8x1024_160_0) (ck x1 168 inb_S1000x1024_S8x1024_168_0) (ck x1 176 inb_S1000x1024_S8x1024_176_0)

/-- The sums of the exponentials after 27 chunks. -/
def s27 (x1 : Vec F S1000x1024 .f32) : FVec F S8x1024 .f32 := k0_pay50 (s23 x1) (ck x1 184 inb_S1000x1024_S8x1024_184_0) (ck x1 192 inb_S1000x1024_S8x1024_192_0) (ck x1 200 inb_S1000x1024_S8x1024_200_0) (ck x1 208 inb_S1000x1024_S8x1024_208_0)
/-- The label's logits picked out of 27 chunks. -/
def l27 (x0 : Vec F S1x1x1024 .i32) (x1 : Vec F S1000x1024 .f32) : FVec F S8x1024 .f32 := k0_pay51 (k0_pay10 x0) io (l23 x0 x1) (ck x1 184 inb_S1000x1024_S8x1024_184_0) (ck x1 192 inb_S1000x1024_S8x1024_192_0) (ck x1 200 inb_S1000x1024_S8x1024_200_0) (ck x1 208 inb_S1000x1024_S8x1024_208_0)

/-- The sums of the exponentials after 31 chunks. -/
def s31 (x1 : Vec F S1000x1024 .f32) : FVec F S8x1024 .f32 := k0_pay56 (s27 x1) (ck x1 216 inb_S1000x1024_S8x1024_216_0) (ck x1 224 inb_S1000x1024_S8x1024_224_0) (ck x1 232 inb_S1000x1024_S8x1024_232_0) (ck x1 240 inb_S1000x1024_S8x1024_240_0)
/-- The label's logits picked out of 31 chunks. -/
def l31 (x0 : Vec F S1x1x1024 .i32) (x1 : Vec F S1000x1024 .f32) : FVec F S8x1024 .f32 := k0_pay57 (k0_pay10 x0) io (l27 x0 x1) (ck x1 216 inb_S1000x1024_S8x1024_216_0) (ck x1 224 inb_S1000x1024_S8x1024_224_0) (ck x1 232 inb_S1000x1024_S8x1024_232_0) (ck x1 240 inb_S1000x1024_S8x1024_240_0)

/-- The sums of the exponentials after 35 chunks. -/
def s35 (x1 : Vec F S1000x1024 .f32) : FVec F S8x1024 .f32 := k0_pay62 (s31 x1) (ck x1 248 inb_S1000x1024_S8x1024_248_0) (ck x1 256 inb_S1000x1024_S8x1024_256_0) (ck x1 264 inb_S1000x1024_S8x1024_264_0) (ck x1 272 inb_S1000x1024_S8x1024_272_0)
/-- The label's logits picked out of 35 chunks. -/
def l35 (x0 : Vec F S1x1x1024 .i32) (x1 : Vec F S1000x1024 .f32) : FVec F S8x1024 .f32 := k0_pay63 (k0_pay10 x0) io (l31 x0 x1) (ck x1 248 inb_S1000x1024_S8x1024_248_0) (ck x1 256 inb_S1000x1024_S8x1024_256_0) (ck x1 264 inb_S1000x1024_S8x1024_264_0) (ck x1 272 inb_S1000x1024_S8x1024_272_0)

/-- The sums of the exponentials after 39 chunks. -/
def s39 (x1 : Vec F S1000x1024 .f32) : FVec F S8x1024 .f32 := k0_pay68 (s35 x1) (ck x1 280 inb_S1000x1024_S8x1024_280_0) (ck x1 288 inb_S1000x1024_S8x1024_288_0) (ck x1 296 inb_S1000x1024_S8x1024_296_0) (ck x1 304 inb_S1000x1024_S8x1024_304_0)
/-- The label's logits picked out of 39 chunks. -/
def l39 (x0 : Vec F S1x1x1024 .i32) (x1 : Vec F S1000x1024 .f32) : FVec F S8x1024 .f32 := k0_pay69 (k0_pay10 x0) io (l35 x0 x1) (ck x1 280 inb_S1000x1024_S8x1024_280_0) (ck x1 288 inb_S1000x1024_S8x1024_288_0) (ck x1 296 inb_S1000x1024_S8x1024_296_0) (ck x1 304 inb_S1000x1024_S8x1024_304_0)

/-- The sums of the exponentials after 43 chunks. -/
def s43 (x1 : Vec F S1000x1024 .f32) : FVec F S8x1024 .f32 := k0_pay74 (s39 x1) (ck x1 312 inb_S1000x1024_S8x1024_312_0) (ck x1 320 inb_S1000x1024_S8x1024_320_0) (ck x1 328 inb_S1000x1024_S8x1024_328_0) (ck x1 336 inb_S1000x1024_S8x1024_336_0)
/-- The label's logits picked out of 43 chunks. -/
def l43 (x0 : Vec F S1x1x1024 .i32) (x1 : Vec F S1000x1024 .f32) : FVec F S8x1024 .f32 := k0_pay75 (k0_pay10 x0) io (l39 x0 x1) (ck x1 312 inb_S1000x1024_S8x1024_312_0) (ck x1 320 inb_S1000x1024_S8x1024_320_0) (ck x1 328 inb_S1000x1024_S8x1024_328_0) (ck x1 336 inb_S1000x1024_S8x1024_336_0)

/-- The sums of the exponentials after 47 chunks. -/
def s47 (x1 : Vec F S1000x1024 .f32) : FVec F S8x1024 .f32 := k0_pay80 (s43 x1) (ck x1 344 inb_S1000x1024_S8x1024_344_0) (ck x1 352 inb_S1000x1024_S8x1024_352_0) (ck x1 360 inb_S1000x1024_S8x1024_360_0) (ck x1 368 inb_S1000x1024_S8x1024_368_0)
/-- The label's logits picked out of 47 chunks. -/
def l47 (x0 : Vec F S1x1x1024 .i32) (x1 : Vec F S1000x1024 .f32) : FVec F S8x1024 .f32 := k0_pay81 (k0_pay10 x0) io (l43 x0 x1) (ck x1 344 inb_S1000x1024_S8x1024_344_0) (ck x1 352 inb_S1000x1024_S8x1024_352_0) (ck x1 360 inb_S1000x1024_S8x1024_360_0) (ck x1 368 inb_S1000x1024_S8x1024_368_0)

/-- The sums of the exponentials after 51 chunks. -/
def s51 (x1 : Vec F S1000x1024 .f32) : FVec F S8x1024 .f32 := k0_pay86 (s47 x1) (ck x1 376 inb_S1000x1024_S8x1024_376_0) (ck x1 384 inb_S1000x1024_S8x1024_384_0) (ck x1 392 inb_S1000x1024_S8x1024_392_0) (ck x1 400 inb_S1000x1024_S8x1024_400_0)
/-- The label's logits picked out of 51 chunks. -/
def l51 (x0 : Vec F S1x1x1024 .i32) (x1 : Vec F S1000x1024 .f32) : FVec F S8x1024 .f32 := k0_pay87 (k0_pay10 x0) io (l47 x0 x1) (ck x1 376 inb_S1000x1024_S8x1024_376_0) (ck x1 384 inb_S1000x1024_S8x1024_384_0) (ck x1 392 inb_S1000x1024_S8x1024_392_0) (ck x1 400 inb_S1000x1024_S8x1024_400_0)

/-- The sums of the exponentials after 55 chunks. -/
def s55 (x1 : Vec F S1000x1024 .f32) : FVec F S8x1024 .f32 := k0_pay92 (s51 x1) (ck x1 408 inb_S1000x1024_S8x1024_408_0) (ck x1 416 inb_S1000x1024_S8x1024_416_0) (ck x1 424 inb_S1000x1024_S8x1024_424_0) (ck x1 432 inb_S1000x1024_S8x1024_432_0)
/-- The label's logits picked out of 55 chunks. -/
def l55 (x0 : Vec F S1x1x1024 .i32) (x1 : Vec F S1000x1024 .f32) : FVec F S8x1024 .f32 := k0_pay93 (k0_pay10 x0) io (l51 x0 x1) (ck x1 408 inb_S1000x1024_S8x1024_408_0) (ck x1 416 inb_S1000x1024_S8x1024_416_0) (ck x1 424 inb_S1000x1024_S8x1024_424_0) (ck x1 432 inb_S1000x1024_S8x1024_432_0)

/-- The sums of the exponentials after 59 chunks. -/
def s59 (x1 : Vec F S1000x1024 .f32) : FVec F S8x1024 .f32 := k0_pay98 (s55 x1) (ck x1 440 inb_S1000x1024_S8x1024_440_0) (ck x1 448 inb_S1000x1024_S8x1024_448_0) (ck x1 456 inb_S1000x1024_S8x1024_456_0) (ck x1 464 inb_S1000x1024_S8x1024_464_0)
/-- The label's logits picked out of 59 chunks. -/
def l59 (x0 : Vec F S1x1x1024 .i32) (x1 : Vec F S1000x1024 .f32) : FVec F S8x1024 .f32 := k0_pay99 (k0_pay10 x0) io (l55 x0 x1) (ck x1 440 inb_S1000x1024_S8x1024_440_0) (ck x1 448 inb_S1000x1024_S8x1024_448_0) (ck x1 456 inb_S1000x1024_S8x1024_456_0) (ck x1 464 inb_S1000x1024_S8x1024_464_0)

/-- The sums of the exponentials after 63 chunks. -/
def s63 (x1 : Vec F S1000x1024 .f32) : FVec F S8x1024 .f32 := k0_pay104 (s59 x1) (ck x1 472 inb_S1000x1024_S8x1024_472_0) (ck x1 480 inb_S1000x1024_S8x1024_480_0) (ck x1 488 inb_S1000x1024_S8x1024_488_0) (ck x1 496 inb_S1000x1024_S8x1024_496_0)
/-- The label's logits picked out of 63 chunks. -/
def l63 (x0 : Vec F S1x1x1024 .i32) (x1 : Vec F S1000x1024 .f32) : FVec F S8x1024 .f32 := k0_pay105 (k0_pay10 x0) io (l59 x0 x1) (ck x1 472 inb_S1000x1024_S8x1024_472_0) (ck x1 480 inb_S1000x1024_S8x1024_480_0) (ck x1 488 inb_S1000x1024_S8x1024_488_0) (ck x1 496 inb_S1000x1024_S8x1024_496_0)

/-- The sums of the exponentials after 67 chunks. -/
def s67 (x1 : Vec F S1000x1024 .f32) : FVec F S8x1024 .f32 := k0_pay110 (s63 x1) (ck x1 504 inb_S1000x1024_S8x1024_504_0) (ck x1 512 inb_S1000x1024_S8x1024_512_0) (ck x1 520 inb_S1000x1024_S8x1024_520_0) (ck x1 528 inb_S1000x1024_S8x1024_528_0)
/-- The label's logits picked out of 67 chunks. -/
def l67 (x0 : Vec F S1x1x1024 .i32) (x1 : Vec F S1000x1024 .f32) : FVec F S8x1024 .f32 := k0_pay111 (k0_pay10 x0) io (l63 x0 x1) (ck x1 504 inb_S1000x1024_S8x1024_504_0) (ck x1 512 inb_S1000x1024_S8x1024_512_0) (ck x1 520 inb_S1000x1024_S8x1024_520_0) (ck x1 528 inb_S1000x1024_S8x1024_528_0)

/-- The sums of the exponentials after 71 chunks. -/
def s71 (x1 : Vec F S1000x1024 .f32) : FVec F S8x1024 .f32 := k0_pay116 (s67 x1) (ck x1 536 inb_S1000x1024_S8x1024_536_0) (ck x1 544 inb_S1000x1024_S8x1024_544_0) (ck x1 552 inb_S1000x1024_S8x1024_552_0) (ck x1 560 inb_S1000x1024_S8x1024_560_0)
/-- The label's logits picked out of 71 chunks. -/
def l71 (x0 : Vec F S1x1x1024 .i32) (x1 : Vec F S1000x1024 .f32) : FVec F S8x1024 .f32 := k0_pay117 (k0_pay10 x0) io (l67 x0 x1) (ck x1 536 inb_S1000x1024_S8x1024_536_0) (ck x1 544 inb_S1000x1024_S8x1024_544_0) (ck x1 552 inb_S1000x1024_S8x1024_552_0) (ck x1 560 inb_S1000x1024_S8x1024_560_0)

/-- The sums of the exponentials after 75 chunks. -/
def s75 (x1 : Vec F S1000x1024 .f32) : FVec F S8x1024 .f32 := k0_pay122 (s71 x1) (ck x1 568 inb_S1000x1024_S8x1024_568_0) (ck x1 576 inb_S1000x1024_S8x1024_576_0) (ck x1 584 inb_S1000x1024_S8x1024_584_0) (ck x1 592 inb_S1000x1024_S8x1024_592_0)
/-- The label's logits picked out of 75 chunks. -/
def l75 (x0 : Vec F S1x1x1024 .i32) (x1 : Vec F S1000x1024 .f32) : FVec F S8x1024 .f32 := k0_pay123 (k0_pay10 x0) io (l71 x0 x1) (ck x1 568 inb_S1000x1024_S8x1024_568_0) (ck x1 576 inb_S1000x1024_S8x1024_576_0) (ck x1 584 inb_S1000x1024_S8x1024_584_0) (ck x1 592 inb_S1000x1024_S8x1024_592_0)

/-- The sums of the exponentials after 79 chunks. -/
def s79 (x1 : Vec F S1000x1024 .f32) : FVec F S8x1024 .f32 := k0_pay128 (s75 x1) (ck x1 600 inb_S1000x1024_S8x1024_600_0) (ck x1 608 inb_S1000x1024_S8x1024_608_0) (ck x1 616 inb_S1000x1024_S8x1024_616_0) (ck x1 624 inb_S1000x1024_S8x1024_624_0)
/-- The label's logits picked out of 79 chunks. -/
def l79 (x0 : Vec F S1x1x1024 .i32) (x1 : Vec F S1000x1024 .f32) : FVec F S8x1024 .f32 := k0_pay129 (k0_pay10 x0) io (l75 x0 x1) (ck x1 600 inb_S1000x1024_S8x1024_600_0) (ck x1 608 inb_S1000x1024_S8x1024_608_0) (ck x1 616 inb_S1000x1024_S8x1024_616_0) (ck x1 624 inb_S1000x1024_S8x1024_624_0)

/-- The sums of the exponentials after 83 chunks. -/
def s83 (x1 : Vec F S1000x1024 .f32) : FVec F S8x1024 .f32 := k0_pay134 (s79 x1) (ck x1 632 inb_S1000x1024_S8x1024_632_0) (ck x1 640 inb_S1000x1024_S8x1024_640_0) (ck x1 648 inb_S1000x1024_S8x1024_648_0) (ck x1 656 inb_S1000x1024_S8x1024_656_0)
/-- The label's logits picked out of 83 chunks. -/
def l83 (x0 : Vec F S1x1x1024 .i32) (x1 : Vec F S1000x1024 .f32) : FVec F S8x1024 .f32 := k0_pay135 (k0_pay10 x0) io (l79 x0 x1) (ck x1 632 inb_S1000x1024_S8x1024_632_0) (ck x1 640 inb_S1000x1024_S8x1024_640_0) (ck x1 648 inb_S1000x1024_S8x1024_648_0) (ck x1 656 inb_S1000x1024_S8x1024_656_0)

/-- The sums of the exponentials after 87 chunks. -/
def s87 (x1 : Vec F S1000x1024 .f32) : FVec F S8x1024 .f32 := k0_pay140 (s83 x1) (ck x1 664 inb_S1000x1024_S8x1024_664_0) (ck x1 672 inb_S1000x1024_S8x1024_672_0) (ck x1 680 inb_S1000x1024_S8x1024_680_0) (ck x1 688 inb_S1000x1024_S8x1024_688_0)
/-- The label's logits picked out of 87 chunks. -/
def l87 (x0 : Vec F S1x1x1024 .i32) (x1 : Vec F S1000x1024 .f32) : FVec F S8x1024 .f32 := k0_pay141 (k0_pay10 x0) io (l83 x0 x1) (ck x1 664 inb_S1000x1024_S8x1024_664_0) (ck x1 672 inb_S1000x1024_S8x1024_672_0) (ck x1 680 inb_S1000x1024_S8x1024_680_0) (ck x1 688 inb_S1000x1024_S8x1024_688_0)

/-- The sums of the exponentials after 91 chunks. -/
def s91 (x1 : Vec F S1000x1024 .f32) : FVec F S8x1024 .f32 := k0_pay146 (s87 x1) (ck x1 696 inb_S1000x1024_S8x1024_696_0) (ck x1 704 inb_S1000x1024_S8x1024_704_0) (ck x1 712 inb_S1000x1024_S8x1024_712_0) (ck x1 720 inb_S1000x1024_S8x1024_720_0)
/-- The label's logits picked out of 91 chunks. -/
def l91 (x0 : Vec F S1x1x1024 .i32) (x1 : Vec F S1000x1024 .f32) : FVec F S8x1024 .f32 := k0_pay147 (k0_pay10 x0) io (l87 x0 x1) (ck x1 696 inb_S1000x1024_S8x1024_696_0) (ck x1 704 inb_S1000x1024_S8x1024_704_0) (ck x1 712 inb_S1000x1024_S8x1024_712_0) (ck x1 720 inb_S1000x1024_S8x1024_720_0)

/-- The sums of the exponentials after 95 chunks. -/
def s95 (x1 : Vec F S1000x1024 .f32) : FVec F S8x1024 .f32 := k0_pay152 (s91 x1) (ck x1 728 inb_S1000x1024_S8x1024_728_0) (ck x1 736 inb_S1000x1024_S8x1024_736_0) (ck x1 744 inb_S1000x1024_S8x1024_744_0) (ck x1 752 inb_S1000x1024_S8x1024_752_0)
/-- The label's logits picked out of 95 chunks. -/
def l95 (x0 : Vec F S1x1x1024 .i32) (x1 : Vec F S1000x1024 .f32) : FVec F S8x1024 .f32 := k0_pay153 (k0_pay10 x0) io (l91 x0 x1) (ck x1 728 inb_S1000x1024_S8x1024_728_0) (ck x1 736 inb_S1000x1024_S8x1024_736_0) (ck x1 744 inb_S1000x1024_S8x1024_744_0) (ck x1 752 inb_S1000x1024_S8x1024_752_0)

/-- The sums of the exponentials after 99 chunks. -/
def s99 (x1 : Vec F S1000x1024 .f32) : FVec F S8x1024 .f32 := k0_pay158 (s95 x1) (ck x1 760 inb_S1000x1024_S8x1024_760_0) (ck x1 768 inb_S1000x1024_S8x1024_768_0) (ck x1 776 inb_S1000x1024_S8x1024_776_0) (ck x1 784 inb_S1000x1024_S8x1024_784_0)
/-- The label's logits picked out of 99 chunks. -/
def l99 (x0 : Vec F S1x1x1024 .i32) (x1 : Vec F S1000x1024 .f32) : FVec F S8x1024 .f32 := k0_pay159 (k0_pay10 x0) io (l95 x0 x1) (ck x1 760 inb_S1000x1024_S8x1024_760_0) (ck x1 768 inb_S1000x1024_S8x1024_768_0) (ck x1 776 inb_S1000x1024_S8x1024_776_0) (ck x1 784 inb_S1000x1024_S8x1024_784_0)

/-- The sums of the exponentials after 103 chunks. -/
def s103 (x1 : Vec F S1000x1024 .f32) : FVec F S8x1024 .f32 := k0_pay164 (s99 x1) (ck x1 792 inb_S1000x1024_S8x1024_792_0) (ck x1 800 inb_S1000x1024_S8x1024_800_0) (ck x1 808 inb_S1000x1024_S8x1024_808_0) (ck x1 816 inb_S1000x1024_S8x1024_816_0)
/-- The label's logits picked out of 103 chunks. -/
def l103 (x0 : Vec F S1x1x1024 .i32) (x1 : Vec F S1000x1024 .f32) : FVec F S8x1024 .f32 := k0_pay165 (k0_pay10 x0) io (l99 x0 x1) (ck x1 792 inb_S1000x1024_S8x1024_792_0) (ck x1 800 inb_S1000x1024_S8x1024_800_0) (ck x1 808 inb_S1000x1024_S8x1024_808_0) (ck x1 816 inb_S1000x1024_S8x1024_816_0)

/-- The sums of the exponentials after 107 chunks. -/
def s107 (x1 : Vec F S1000x1024 .f32) : FVec F S8x1024 .f32 := k0_pay170 (s103 x1) (ck x1 824 inb_S1000x1024_S8x1024_824_0) (ck x1 832 inb_S1000x1024_S8x1024_832_0) (ck x1 840 inb_S1000x1024_S8x1024_840_0) (ck x1 848 inb_S1000x1024_S8x1024_848_0)
/-- The label's logits picked out of 107 chunks. -/
def l107 (x0 : Vec F S1x1x1024 .i32) (x1 : Vec F S1000x1024 .f32) : FVec F S8x1024 .f32 := k0_pay171 (k0_pay10 x0) io (l103 x0 x1) (ck x1 824 inb_S1000x1024_S8x1024_824_0) (ck x1 832 inb_S1000x1024_S8x1024_832_0) (ck x1 840 inb_S1000x1024_S8x1024_840_0) (ck x1 848 inb_S1000x1024_S8x1024_848_0)

/-- The sums of the exponentials after 111 chunks. -/
def s111 (x1 : Vec F S1000x1024 .f32) : FVec F S8x1024 .f32 := k0_pay176 (s107 x1) (ck x1 856 inb_S1000x1024_S8x1024_856_0) (ck x1 864 inb_S1000x1024_S8x1024_864_0) (ck x1 872 inb_S1000x1024_S8x1024_872_0) (ck x1 880 inb_S1000x1024_S8x1024_880_0)
/-- The label's logits picked out of 111 chunks. -/
def l111 (x0 : Vec F S1x1x1024 .i32) (x1 : Vec F S1000x1024 .f32) : FVec F S8x1024 .f32 := k0_pay177 (k0_pay10 x0) io (l107 x0 x1) (ck x1 856 inb_S1000x1024_S8x1024_856_0) (ck x1 864 inb_S1000x1024_S8x1024_864_0) (ck x1 872 inb_S1000x1024_S8x1024_872_0) (ck x1 880 inb_S1000x1024_S8x1024_880_0)

/-- The sums of the exponentials after 115 chunks. -/
def s115 (x1 : Vec F S1000x1024 .f32) : FVec F S8x1024 .f32 := k0_pay182 (s111 x1) (ck x1 888 inb_S1000x1024_S8x1024_888_0) (ck x1 896 inb_S1000x1024_S8x1024_896_0) (ck x1 904 inb_S1000x1024_S8x1024_904_0) (ck x1 912 inb_S1000x1024_S8x1024_912_0)
/-- The label's logits picked out of 115 chunks. -/
def l115 (x0 : Vec F S1x1x1024 .i32) (x1 : Vec F S1000x1024 .f32) : FVec F S8x1024 .f32 := k0_pay183 (k0_pay10 x0) io (l111 x0 x1) (ck x1 888 inb_S1000x1024_S8x1024_888_0) (ck x1 896 inb_S1000x1024_S8x1024_896_0) (ck x1 904 inb_S1000x1024_S8x1024_904_0) (ck x1 912 inb_S1000x1024_S8x1024_912_0)

/-- The sums of the exponentials after 119 chunks. -/
def s119 (x1 : Vec F S1000x1024 .f32) : FVec F S8x1024 .f32 := k0_pay188 (s115 x1) (ck x1 920 inb_S1000x1024_S8x1024_920_0) (ck x1 928 inb_S1000x1024_S8x1024_928_0) (ck x1 936 inb_S1000x1024_S8x1024_936_0) (ck x1 944 inb_S1000x1024_S8x1024_944_0)
/-- The label's logits picked out of 119 chunks. -/
def l119 (x0 : Vec F S1x1x1024 .i32) (x1 : Vec F S1000x1024 .f32) : FVec F S8x1024 .f32 := k0_pay189 (k0_pay10 x0) io (l115 x0 x1) (ck x1 920 inb_S1000x1024_S8x1024_920_0) (ck x1 928 inb_S1000x1024_S8x1024_928_0) (ck x1 936 inb_S1000x1024_S8x1024_936_0) (ck x1 944 inb_S1000x1024_S8x1024_944_0)

/-- The sums of the exponentials after 123 chunks. -/
def s123 (x1 : Vec F S1000x1024 .f32) : FVec F S8x1024 .f32 := k0_pay194 (s119 x1) (ck x1 952 inb_S1000x1024_S8x1024_952_0) (ck x1 960 inb_S1000x1024_S8x1024_960_0) (ck x1 968 inb_S1000x1024_S8x1024_968_0) (ck x1 976 inb_S1000x1024_S8x1024_976_0)
/-- The label's logits picked out of 123 chunks. -/
def l123 (x0 : Vec F S1x1x1024 .i32) (x1 : Vec F S1000x1024 .f32) : FVec F S8x1024 .f32 := k0_pay195 (k0_pay10 x0) io (l119 x0 x1) (ck x1 952 inb_S1000x1024_S8x1024_952_0) (ck x1 960 inb_S1000x1024_S8x1024_960_0) (ck x1 968 inb_S1000x1024_S8x1024_968_0) (ck x1 976 inb_S1000x1024_S8x1024_976_0)

/-- The row of losses a point stores. -/
def row (x0 : Vec F S1x1x1024 .i32) (x1 : Vec F S1000x1024 .f32) : FVec F S1x1024 .f32 :=
  k0_pay1 (k0_pay198 (k0_pay10 x0) io (l123 x0 x1) (ck x1 984 inb_S1000x1024_S8x1024_984_0) (ck x1 992 inb_S1000x1024_S8x1024_992_0)) (k0_pay199 (s123 x1) (ck x1 984 inb_S1000x1024_S8x1024_984_0) (ck x1 992 inb_S1000x1024_S8x1024_992_0))

end Cert.KernelIdeal.Rows

end
-- ==== Proof.Body.lean ====
module

public import proofs.«01_k».proof.Proof.Rows
public import proofs.«01_k».proof.Proof.Gen.KernelIdeal.Frame
public import proofs.«01_k».proof.Proof.Gen.KernelIdeal.Points
public import Idealize.ShloMosaic.Lib.WritesUnit
public import Idealize.ShloMosaic.Lib.VecWindow
public import Idealize.ShloMosaic.Lib.Pointwise.Index

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Rows

variable {F : FTy → Type} [FloatOps F]

local notation "𝕄" => MT nD τ sig Unit (Elt F) ℕ (UR sig nD τ) ℕ

/-- The row that point `i` fills: row `i` holds the losses of the point's block, every other row what it held. -/
def upd (i : grid0.Coords) (x0 : Vec F S1x1x1024 .i32) (x1 : Vec F S1000x1024 .f32) (d : Vec F S16x1024 .f32) : Vec F S16x1024 .f32 :=
  fun y => if (y (0 : Fin 2)).val = (i 0).val then row x0 x1 (ix2 (0 : Fin 1) (y (1 : Fin 2))) else d y

/-- The key of every loss: the fold that counts, sample by sample, the losses below it. -/
def keys (L : Vec F S16x1024 .f32) : IVec S16x1024 32 :=
  Scf.fold (n := k0_t1_loop.trips) (fun a acc => k0_pay5 L a acc) k0_pay4

/-- One step of the bisection: the carried bit joins the threshold when at least 4096 keys reach the joined value. -/
def bstep (F : FTy → Type) [FloatOps F] (b : IVec S16x1024 32) (p : BitVec 32 × BitVec 32) : BitVec 32 × BitVec 32 :=
  (Scalar.shrui p.1 1#32,
    Scalar.select (Scalar.cmpf .oge (k0_pay6 (F := F) b p.1 p.2) (Scalar.ofBits .f32 0x45800000#32)) (Scalar.ori p.2 p.1) p.2)

/-- The threshold: the largest key that at least 4096 keys reach, found bit by bit from the highest. -/
def thr (F : FTy → Type) [FloatOps F] (b : IVec S16x1024 32) : BitVec 32 :=
  (Scf.fold (n := k0_t2_loop.trips) (fun _ p => bstep F b p) (1073741824#32, 0#32)).2

/-- What the last point writes, as a function of the filled scratch. -/
def fin (L : Vec F S16x1024 .f32) : Vec F S1x1 .f32 :=
  k0_pay2 (k0_pay3 L) (k0_pay7 L (keys L) (thr F (keys L))) (k0_pay8 (keys L) (thr F (keys L))) (k0_pay9 L (keys L) (thr F (keys L)))

/-- The scratch read back after the row store is the updated contents. -/
theorem read_row {κ sp} (v : View sig κ sp S16x1024 .f32) (f : v.ty.Contents (Elt F)) (i : grid0.Coords) (w : FVec F S1x1024 .f32)
    (d : Vec F S16x1024 .f32) (x0 : Vec F S1x1x1024 .i32) (x1 : Vec F S1000x1024 .f32) (hw : w = row x0 x1)
    (hd : v.read (Elt F) f = d) {inb} :
    v.read (Elt F) (v.writes (Elt F) f [⟨Rect.unit (s := S16x1024) (k0_off1 i) S1x1024.size inb, w⟩]) = upd i x0 x1 d := by
  subst hw
  funext y
  unfold upd
  split
  · rename_i h
    exact View.read_writes_cons_rows_of_mem v f inb (row x0 x1) [] y (ix2 (0 : Fin 1) (y (1 : Fin 2))) (k0_off1_eq i)
      (by rw [h]; rfl) rfl
  · rename_i h
    rw [View.read_writes_cons_rows_of_not_mem v f inb (row x0 x1) [] y (k0_off1_eq i) (W := 1) rfl (by omega)]
    exact congrFun hd y

set_option maxRecDepth 16384 in
set_option maxHeartbeats 1000000 in
/-- A point before the last stores the losses of its block in its own row of the scratch; the result is not written. -/
theorem runA (c : Dev nD) (i : grid0.Coords) (arg1 : Memref sig .tc .vmem S1x1x1024 .i32) (harg1 : arg1.IsWhole) (arg2 : Memref sig .tc .vmem S1000x1024 .f32) (harg2 : arg2.IsWhole) (arg3 : Memref sig .tc .vmem S1x1 .f32) (harg3 : arg3.IsWhole) (arg4 : Memref sig .tc .vmem S16x1024 .f32) (harg4 : arg4.IsWhole) (hc0 : ¬ k0_cond1 i = 1#1)
    (x0 : Vec F S1x1x1024 .i32) (x1 : Vec F S1000x1024 .f32) (d2 : Vec F S1x1 .f32) (d : Vec F S16x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare d2 ∗ owns (c : Thread nD τ) arg4 fullShare d
            ∗ (iprop(owns (c : Thread nD τ) arg1 fullShare x0 ∗ owns (c : Thread nD τ) arg2 fullShare x1 ∗ owns (c : Thread nD τ) arg3 fullShare d2 ∗ owns (c : Thread nD τ) arg4 fullShare (upd i x0 x1 d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    simp only [k0_part33_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%fs0, %hfs0, HS0⟩, Hk⟩
    sl_exec (disch := first | sl_exact hc0)
    sl_step
    have h : k0_pay1 (runA.sl.r_94 c arg1 arg2 f0 f1) (runA.sl.r_95 c arg2 f1) = row x0 x1 := by
      delta runA.sl.r runA.sl.v3 runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.r_40 runA.sl.r_41 runA.sl.r_42 runA.sl.r_43 runA.sl.r_44 runA.sl.r_45 runA.sl.r_46 runA.sl.r_47 runA.sl.r_48 runA.sl.r_49 runA.sl.r_50 runA.sl.r_51 runA.sl.r_52 runA.sl.r_53 runA.sl.r_54 runA.sl.r_55 runA.sl.r_56 runA.sl.r_57 runA.sl.r_58 runA.sl.r_59 runA.sl.r_60 runA.sl.r_61 runA.sl.r_62 runA.sl.r_63 runA.sl.r_64 runA.sl.r_65 runA.sl.r_66 runA.sl.r_67 runA.sl.r_68 runA.sl.r_69 runA.sl.r_70 runA.sl.r_71 runA.sl.r_72 runA.sl.r_73 runA.sl.r_74 runA.sl.r_75 runA.sl.r_76 runA.sl.r_77 runA.sl.r_78 runA.sl.r_79 runA.sl.r_80 runA.sl.r_81 runA.sl.r_82 runA.sl.r_83 runA.sl.r_84 runA.sl.r_85 runA.sl.r_86 runA.sl.r_87 runA.sl.r_88 runA.sl.r_89 runA.sl.r_90 runA.sl.r_91 runA.sl.r_92 runA.sl.r_93 runA.sl.r_94 runA.sl.r_95
      delta row io s3 l3 s7 l7 s11 l11 s15 l15 s19 l19 s23 l23 s27 l27 s31 l31 s35 l35 s39 l39 s43 l43 s47 l47 s51 l51 s55 l55 s59 l59 s63 l63 s67 l67 s71 l71 s75 l75 s79 l79 s83 l83 s87 l87 s91 l91 s95 l95 s99 l99 s103 l103 s107 l107 s111 l111 s115 l115 s119 l119 s123 l123
      have hck : ∀ o h, View.readAt (Elt F) arg2.view (Rect.unit (s := S1000x1024) ![o, 0] S8x1024.size h).toLoadRect f1 = ck x1 o h := by
        intro o h; subst hf1; rfl
      have h0 : View.readAt (Elt F) arg1.view (Rect.unit (s := S1x1x1024) ![0, 0, 0] S1x1x1024.size inb_S1x1x1024_S1x1x1024_0_0_0).toLoadRect f0 = x0 := by
        rw [← hf0]; exact View.readAt_full _ _ _
      simp only [h0, hck]
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    iexists _; isplitr; swap; · iexact HS0
    ipureintro
    rw [h]; exact read_row arg4.view fs0 i (row x0 x1) d x0 x1 rfl hfs0

set_option maxRecDepth 16384 in
set_option maxHeartbeats 1000000 in
/-- The last point stores its own row too, then writes the mean that the scratch as then filled gives. -/
theorem runB (c : Dev nD) (i : grid0.Coords) (arg1 : Memref sig .tc .vmem S1x1x1024 .i32) (harg1 : arg1.IsWhole) (arg2 : Memref sig .tc .vmem S1000x1024 .f32) (harg2 : arg2.IsWhole) (arg3 : Memref sig .tc .vmem S1x1 .f32) (harg3 : arg3.IsWhole) (arg4 : Memref sig .tc .vmem S16x1024 .f32) (harg4 : arg4.IsWhole) (hc0 : k0_cond1 i = 1#1)
    (x0 : Vec F S1x1x1024 .i32) (x1 : Vec F S1000x1024 .f32) (d : Vec F S16x1024 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare d
            ∗ (iprop(owns (c : Thread nD τ) arg1 fullShare x0 ∗ owns (c : Thread nD τ) arg2 fullShare x1 ∗ owns (c : Thread nD τ) arg3 fullShare (fin (upd i x0 x1 d)) ∗ owns (c : Thread nD τ) arg4 fullShare (upd i x0 x1 d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    simp only [k0_part33_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part1_eq_skeleton]
    unfold owns
    iintro ⟨⟨%f0, %hf0, H0⟩, ⟨%f1, %hf1, H1⟩, ⟨%d2, %f2, %hf2, H2⟩, ⟨%fs0, %hfs0, HS0⟩, Hk⟩
    sl_exec (disch := first | sl_exact hc0)
    sl_step
    have h : k0_pay1 (runB.sl.r_94 c arg1 arg2 f0 f1) (runB.sl.r_95 c arg2 f1) = row x0 x1 := by
      delta runB.sl.r runB.sl.v3 runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.r_36 runB.sl.r_37 runB.sl.r_38 runB.sl.r_39 runB.sl.r_40 runB.sl.r_41 runB.sl.r_42 runB.sl.r_43 runB.sl.r_44 runB.sl.r_45 runB.sl.r_46 runB.sl.r_47 runB.sl.r_48 runB.sl.r_49 runB.sl.r_50 runB.sl.r_51 runB.sl.r_52 runB.sl.r_53 runB.sl.r_54 runB.sl.r_55 runB.sl.r_56 runB.sl.r_57 runB.sl.r_58 runB.sl.r_59 runB.sl.r_60 runB.sl.r_61 runB.sl.r_62 runB.sl.r_63 runB.sl.r_64 runB.sl.r_65 runB.sl.r_66 runB.sl.r_67 runB.sl.r_68 runB.sl.r_69 runB.sl.r_70 runB.sl.r_71 runB.sl.r_72 runB.sl.r_73 runB.sl.r_74 runB.sl.r_75 runB.sl.r_76 runB.sl.r_77 runB.sl.r_78 runB.sl.r_79 runB.sl.r_80 runB.sl.r_81 runB.sl.r_82 runB.sl.r_83 runB.sl.r_84 runB.sl.r_85 runB.sl.r_86 runB.sl.r_87 runB.sl.r_88 runB.sl.r_89 runB.sl.r_90 runB.sl.r_91 runB.sl.r_92 runB.sl.r_93 runB.sl.r_94 runB.sl.r_95
      delta row io s3 l3 s7 l7 s11 l11 s15 l15 s19 l19 s23 l23 s27 l27 s31 l31 s35 l35 s39 l39 s43 l43 s47 l47 s51 l51 s55 l55 s59 l59 s63 l63 s67 l67 s71 l71 s75 l75 s79 l79 s83 l83 s87 l87 s91 l91 s95 l95 s99 l99 s103 l103 s107 l107 s111 l111 s115 l115 s119 l119 s123 l123
      have hck : ∀ o h, View.readAt (Elt F) arg2.view (Rect.unit (s := S1000x1024) ![o, 0] S8x1024.size h).toLoadRect f1 = ck x1 o h := by
        intro o h; subst hf1; rfl
      have h0 : View.readAt (Elt F) arg1.view (Rect.unit (s := S1x1x1024) ![0, 0, 0] S1x1x1024.size inb_S1x1x1024_S1x1x1024_0_0_0).toLoadRect f0 = x0 := by
        rw [← hf0]; exact View.readAt_full _ _ _
      simp only [h0, hck]
    iapply Hk
    isplitl [H0]
    · iexists _; isplitr; · ipureintro; exact hf0
      iexact H0
    isplitl [H1]
    · iexists _; isplitr; · ipureintro; exact hf1
      iexact H1
    isplitl [H2]
    · iexists _; isplitr; swap; · iexact H2
      ipureintro
      have hL : View.readAt (Elt F) arg4.view (Rect.unit (s := S16x1024) ![0, 0] S16x1024.size inb_S16x1024_S16x1024_0_0).toLoadRect
          (arg4.view.writes (Elt F) fs0 (runB.sl.HS0_1 c i arg1 arg2 f0 f1)) = upd i x0 x1 d := by
        rw [View.readAt_full]
        delta runB.sl.HS0_1
        rw [h]; exact read_row arg4.view fs0 i (row x0 x1) d x0 x1 rfl hfs0
      delta runB.sl.r_97 runB.sl.r_98 runB.sl.r_99 runB.sl.r_100 runB.sl.r_101
      delta runB.sl.r_96 runB.sl.r_97
      rw [hL]
      exact View.read_writes_full arg3.view f2 _ _ []
    iexists _; isplitr; swap; · iexact HS0
    ipureintro
    delta runB.sl.HS0_1
    rw [h]; exact read_row arg4.view fs0 i (row x0 x1) d x0 x1 rfl hfs0

end Cert.KernelIdeal.Body

end
-- ==== Proof.Launch.lean ====
module

public import proofs.«01_k».proof.Proof.Body
public import Idealize.ShloMosaic.Lib.Claim
public import Idealize.ShloMosaic.Lib.Pipeline.Value

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Rows Cert.KernelIdeal.Body

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The grid point that fills row `r` of the scratch. -/
def pt (r : Fin 16) : Fin cfg0.N := ⟨r.val, Nat.lt_of_lt_of_eq r.isLt N_0.symm⟩

/-- The scratch once every point has run: row `r` holds the losses of block `r`. -/
def want (c : Dev nD) : Vec F S16x1024 .f32 :=
  fun y => row (iblk m c 0 (pt (y (0 : Fin 2)))) (iblk m c 1 (pt (y (0 : Fin 2)))) (ix2 (0 : Fin 1) (y (1 : Fin 2)))

/-- The scratch operand: a whole buffer of the kernel's own. -/
abbrev scM : Memref sig .tc .vmem S16x1024 .f32 := Memref.whole cc0_scratch0

/-- What holds before point `n`: the scratch's first `n` rows are the wanted ones. -/
def inv (c : Dev nD) (n : ℕ) : sProp 𝕄 :=
  iprop((∃ d, owns (c : Thread nD τ) scM fullShare d ∗ ⌜∀ y : S16x1024.Idx, (y (0 : Fin 2)).val < n → d y = want m c y⌝) ∗ (∃ r, prngReg c r))

/-- The class's invariant, its scratch owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data: inputs are left in place, the output's buffer ends at the mean of the filled scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fin (want m c)
  Φ t := inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fin (want m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A point's one coordinate is its number. -/
theorem coord (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  rw [e0]; omega

/-- The body's branch is taken at the last point only. -/
theorem cond_iff : ∀ t : Fin cfg0.N, k0_cond1 (grid0.coords t) = 1#1 ↔ t.val = 15 :=
  (fun t => by
    have ht : t.val < 16 := Nat.lt_of_lt_of_eq t.isLt N_0
    have e0 : (grid0.coords t 0).val = t.val := coord t
    simp only [k0_cond1, e0]
    word_cmp
   : ∀ t : Fin grid0.N, k0_cond1 (grid0.coords t) = 1#1 ↔ t.val = 15)

/-- Storing point `t`'s row extends the wanted rows by one. -/
theorem upd_want (c : Dev nD) (t : Fin cfg0.N) (d : Vec F S16x1024 .f32)
    (hd : ∀ y : S16x1024.Idx, (y (0 : Fin 2)).val < t.val → d y = want m c y) (y : S16x1024.Idx) (hy : (y (0 : Fin 2)).val < t.val + 1) :
    upd (grid0.coords t) (iblk m c 0 t) (iblk m c 1 t) d y = want m c y := by
  unfold upd
  split
  · rename_i h
    rw [coord] at h
    have e : pt (y (0 : Fin 2)) = t := Fin.ext h
    unfold want
    rw [e]
  · rename_i h
    rw [coord] at h
    exact hd y (by omega)

abbrev ms0 (t : Fin cfg0.N) : Memref sig .tc .vmem S1x1x1024 .i32 := win0_0.stage (cfg0.slots t 0)
abbrev ms1 (t : Fin cfg0.N) : Memref sig .tc .vmem S1000x1024 .f32 := win0_1.stage (cfg0.slots t 1)
abbrev ms2 (t : Fin cfg0.N) : Memref sig .tc .vmem S1x1 .f32 := win0_2.stage (cfg0.slots t 2)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 800000 in
/-- The body at a point: one more row of the scratch is the wanted one; the last point writes the mean. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  rw [show (dats m 0 c).leavesExact 0 t = owns (c : Thread nD τ) (ms0 t) fullShare ((dats m 0 c).after 0 t) from by
      unfold Dat.leavesExact; rw [show cfg0.idle 0 (grid0.coords t) = false from rfl], after0_0]
  rw [show (dats m 0 c).leavesExact 1 t = owns (c : Thread nD τ) (ms1 t) fullShare ((dats m 0 c).after 1 t) from by
      unfold Dat.leavesExact; rw [show cfg0.idle 1 (grid0.coords t) = false from rfl], after0_1]
  have hN : t.val < 16 := lt_of_lt_of_eq t.isLt (show cfg0.N = 16 from N_0)
  unfold inv
  by_cases h0 : t.val = 15
  · have hc := (cond_iff t).mpr h0
    have hid : cfg0.idle 2 (grid0.coords t) = false := by
      show (!(k0_cond1 (grid0.coords t) == 1#1)) = false
      rw [hc]; rfl
    rw [show (dats m 0 c).leavesExact 2 t = owns (c : Thread nD τ) (ms2 t) fullShare ((dats m 0 c).after 2 t) from by
      unfold Dat.leavesExact; rw [hid], after0_2]
    iintro ⟨⟨⟨%d, HS0, %hd⟩, Hg⟩, Ho, ⟨%d0, H0⟩, ⟨%d1, H1⟩, ⟨%d2, H2⟩⟩
    have hup : upd (grid0.coords t) (iblk m c 0 t) (iblk m c 1 t) d = want m c :=
      funext fun y => upd_want m c t d hd y (by have : (y (0 : Fin 2)).val < 16 := (y (0 : Fin 2)).isLt; omega)
    iapply ((runB c (grid0.coords t) _ _ _ _ _ _ _ _ hc (iblk m c 0 t) (iblk m c 1 t) d) Set.univ _)
    isplitl [H0]; · iexact H0
    isplitl [H1]; · iexact H1
    isplitl [H2]; · iexists _; iexact H2
    isplitl [HS0]; · iexact HS0
    iintro ⟨H0, H1, H2, HS0⟩
    rw [hup]
    isplitl [HS0 Hg]
    · isplitl [HS0]
      · iexists _; isplitl; · iexact HS0
        ipureintro; intro y _; rfl
      iexact Hg
    isplitl [Ho]; · iexact Ho
    isplitl [H0]; · iexact H0
    isplitl [H1]; · iexact H1
    iexact H2
  · have hc : ¬ k0_cond1 (grid0.coords t) = 1#1 := fun h => h0 ((cond_iff t).mp h)
    have hid : cfg0.idle 2 (grid0.coords t) = true := by
      show (!(k0_cond1 (grid0.coords t) == 1#1)) = true
      rw [beq_false_of_ne hc]; rfl
    have hfl : (cfg0.win 2).flush t = false := by
      rw [Bool.eq_false_iff]; intro h; have := (flush0_2 t).mp h; omega
    rw [show (dats m 0 c).leavesExact 2 t = iprop(∃ d, owns (c : Thread nD τ) (ms2 t) fullShare ((dats m 0 c).before 2 t d)) from by
      unfold Dat.leavesExact; rw [hid, hfl]]
    iintro ⟨⟨⟨%d, HS0, %hd⟩, Hg⟩, Ho, ⟨%d0, H0⟩, ⟨%d1, H1⟩, ⟨%d2, H2⟩⟩
    iapply ((runA c (grid0.coords t) _ _ _ _ _ _ _ _ hc (iblk m c 0 t) (iblk m c 1 t) _ d) Set.univ _)
    isplitl [H0]; · iexact H0
    isplitl [H1]; · iexact H1
    isplitl [H2]; · iexact H2
    isplitl [HS0]; · iexact HS0
    iintro ⟨H0, H1, H2, HS0⟩
    isplitl [HS0 Hg]
    · isplitl [HS0]
      · iexists _; isplitl; · iexact HS0
        ipureintro; intro y hy; exact upd_want m c t d hd y hy
      iexact Hg
    isplitl [Ho]; · iexact Ho
    isplitl [H0]; · iexact H0
    isplitl [H1]; · iexact H1
    iexists _; iexact H2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch. -/
theorem inv_in (c : Dev nD) : (Pipeline.ΦA spec0 c : sProp 𝕄) ⊢ inv m c 0 := by
  rw [PhiA_eq]; unfold inv
  iintro ⟨⟨%d, H⟩, Hg⟩
  isplitl [H]
  · iexists d; isplitl; · iexact H
    ipureintro; intro y h; exact absurd h (Nat.not_lt_zero _)
  iexact Hg

/-- After the last point the scratch is owned at some contents. -/
theorem inv_out (c : Dev nD) (n : ℕ) : inv m c n ⊢ (Pipeline.ΦA spec0 c : sProp 𝕄) := by
  rw [PhiA_eq]; unfold inv
  iintro ⟨⟨%d, H, -⟩, Hg⟩
  isplitl [H]
  · iexists d; iexact H
  iexact Hg

set_option backward.isDefEq.respectTransparency.types false in
set_option maxHeartbeats 800000 in
/-- The launch: every array at its computed contents, every other buffer as the last host line leaves it, and every
semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => inv_in m c) (hout := fun c => inv_out m c _)

/-- The result array of the pipeline ends at the mean of the filled scratch. -/
theorem arr2 (c : Dev nD) : (dats m 0 c).arrAt 2 cfg0.N = (fun _ => fin (want m c) (ix2 (0 : Fin 1) (0 : Fin 1)) : S1x1.Idx → Elt F .f32) := by
  have h1 : ∀ j : S1x1.Idx, j = ix2 (0 : Fin 1) (0 : Fin 1) := fun j => by
    rw [eq_ix2 j]; congr 1 <;> exact Subsingleton.elim _ _
  refine Dat.arrAt_eq_of_cover (dats m 0 c) 2 _ ?_ ?_
  · intro t ht
    funext j
    show fin (want m c) (j : S1x1.Idx) = fin (want m c) (ix2 (0 : Fin 1) (0 : Fin 1))
    exact congrArg (fin (want m c)) (h1 j)
  · intro i
    refine ⟨pt 15, (flush0_2 _).mpr rfl, ?_⟩
    have : i = ((cfg0.win 2).blk (pt 15)).view.emb (ix2 (0 : Fin 1) (0 : Fin 1)) := (h1 i).trans (h1 _).symm
    rw [this]; exact View.emb_mem_set _ _

/-- The value `@main` returns. -/
theorem tail_v3 (c : Dev nD) : Pipeline.afterTail₀ cfgs (dats m) 0 (V0 m) [hostOps1] c main_v3
    = (fun _ => fin (want m c) (ix2 (0 : Fin 1) (0 : Fin 1)) : S_.Idx → Elt F .f32) := by
  unfold Pipeline.afterTail₀
  have h := Pipeline.withArrays_arr spec0 launch0.win.arr_inj c (V0 m c) (fun w => (dats m 0 c).arrAt w cfg0.N) 2
  rw [arr2] at h
  simp only [List.flatten_cons, List.flatten_nil, List.append_nil, hostOps1, StableHlo.after_cons, StableHlo.after_nil]
  rw [StableHlo.reshape_result]
  funext j
  have e : ∀ x, (Pipeline.withArrays (cfgs 0).spec c (V0 m c) (fun w => (dats m 0 c).arrAt w (cfgs 0).N) (Proc.tc.devRef main_v2) : S1x1.Idx → Elt F .f32) x
      = fin (want m c) (ix2 (0 : Fin 1) (0 : Fin 1)) := fun x => congrFun h x
  exact e _

/-- The kernel's run: the result is the mean of the filled scratch, the arguments are unchanged, every counter is zero. -/
theorem run : θ_run defs (onTc (τ := τ) (main (F := F))) ⟨m, fun _ => 0, ρ⟩ (fun r =>
    (∀ c : Dev nD, r.2.mem ((c.tc : Thread nD τ).loc main_v3) = (fun _ => fin (want m c) (ix2 (0 : Fin 1) (0 : Fin 1)) : S_.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c =>
      ⟨((h.1 c).2 main_v3 (Pipeline.mem_restRefs_of main_v3 (by decide) (by decide))).trans (tail_v3 m c),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩, h.2⟩)
    (run_main m ρ)

end Cert.KernelIdeal.Launch

end
-- ==== Proof.RefRun.lean ====
module

public import proofs.«01_k».proof.Proof.Gen.ReferenceIdeal.Run
public import Idealize.ShloMosaic.Lib.Quiescent

@[expose] public section

noncomputable section

namespace Cert.ReferenceIdeal.RefRun

open Idealize.ShloMosaic Idealize.ShloMosaic.TcCoe Idealize.SL.Sem
open Cert.ReferenceIdeal Cert.ReferenceIdeal.Gen

variable {F : FTy → Type} [FloatOps F]

/-- The reference's run: the result is the printed term of the arguments, the arguments are unchanged, every counter
is zero (the program has no semaphore). -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v25) = Value.res_main_v25 m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨h, sem_eq_zero_of_no_sems rfl _⟩) (Value.run m ρ)

end Cert.ReferenceIdeal.RefRun

end
-- ==== Proof.Pre.lean ====
/- The precondition read back: where it holds, every logit is a real number and every label names one of the thousand classes. -/
module

public import proofs.«01_k».proof.Pre_drawn
public import Idealize.ShloMosaic.Lib.ReduceAll
public import Idealize.ShloMosaic.Lib.Pointwise
public import Idealize.ShloMosaic.PureOps.Ideal.Laws

@[expose] public section

noncomputable section

namespace Cert.Pre_drawn.Read

open Idealize.ShloMosaic Cert.Pre_drawn

/-- The shape of rank 0 has one index. -/
theorem one_index : Subsingleton S_.Idx := ⟨fun _ _ => funext fun a => a.elim0⟩

/-- An extended real whose absolute value is below infinity is a real number. -/
theorem real_of_abs (a : EReal) (h : max a (-a) < ⊤) : ∃ r : ℝ, a = (r : EReal) := by
  induction a using EReal.rec with
  | bot => simp at h
  | coe r => exact ⟨r, rfl⟩
  | top => simp at h

/-- A label that is at least 0 and below 1000 is the word of a class. -/
theorem class_of_word (v : BitVec 32) (h0 : IntOp.cmpi .sge v 0#32 = 1#1) (h1 : IntOp.cmpi .slt v 1000#32 = 1#1) :
    ∃ b : Fin 1000, v = BitVec.ofNat 32 b.val := by
  have ofBool_eq_one (p : Bool) : (BitVec.ofBool p = 1#1) ↔ p = true := by cases p <;> decide
  have hv : v.toNat < 1000 := by
    simp only [IntOp.cmpi, ofBool_eq_one, BitVec.sle_eq_decide, BitVec.slt_eq_decide, decide_eq_true_eq, BitVec.toInt_eq_toNat_cond,
      BitVec.toNat_ofNat, Nat.reducePow, Nat.reduceMod] at h0 h1
    omega
  exact ⟨⟨v.toNat, hv⟩, by simp⟩

variable [Facts]

/-- Where the precondition holds, the logits are real numbers and the labels are classes. -/
theorem read (x : Vec Ideal S16384x1000 .f32) (y : IVec S16384 32) (h : fn (F := Ideal) x y = fun _ => 1#1) :
    ∃ (r : Fin 16384 → Fin 1000 → ℝ) (b : Fin 16384 → Fin 1000),
      (∀ n k, x (ix2 n k) = ((r n k : ℝ) : EReal)) ∧ ∀ n, y (ix1 n) = BitVec.ofNat 32 (b n).val := by
  have e := congrFun h (fun a => a.elim0)
  simp only [fn, andi] at e
  obtain ⟨e1, e2⟩ := IntOp.andi_eq_one.1 e
  haveI := one_index
  have hx : ∀ n k, ∃ r : ℝ, x (ix2 n k) = (r : EReal) := fun n k => by
    have q := Host.reduce_andi_all _ _ _ _ _ e1 (ix2 n k)
    refine real_of_abs _ ?_
    have t : Ideal.ofBits .f32 0x7F800000#32 = ⊤ := by simp [Ideal.ofBits, Ideal.ieee]
    rw [← t]
    have q' : Ideal.cmp .olt (max (x (ix2 n k)) (-x (ix2 n k))) (Ideal.ofBits .f32 0x7F800000#32) = 1#1 := q
    by_contra hn
    simp [Ideal.cmp, hn] at q'
  have hy : ∀ n, ∃ b : Fin 1000, y (ix1 n) = BitVec.ofNat 32 b.val := fun n => by
    have q := Host.reduce_andi_all _ _ _ _ _ e2 (ix1 n)
    obtain ⟨q0, q1⟩ := IntOp.andi_eq_one.1 q
    exact class_of_word _ q0 q1
  choose r hr using hx
  choose b hb using hy
  exact ⟨r, b, hr, hb⟩

end Cert.Pre_drawn.Read

end
-- ==== Proof.Select.lean ====
/- The selection of the greatest values by a threshold on the rank, over a finite family of real numbers: the rank of an entry is the
   number of entries strictly below it, and the threshold is the greatest rank that at least `K` entries reach. -/
module

public import Idealize.ShloMosaic.PureOps.Ideal.Laws

@[expose] public section

noncomputable section

namespace Cert.Select

variable {ι : Type} [Fintype ι] [DecidableEq ι]

/-- The number of entries strictly below entry `n`. -/
def rank (v : ι → ℝ) (n : ι) : ℕ := (Finset.univ.filter fun m => v m < v n).card

/-- The number of entries whose rank is at least `t`. -/
def atLeast (v : ι → ℝ) (t : ℕ) : ℕ := (Finset.univ.filter fun n => t ≤ rank v n).card

/-- The entries whose rank is above `t`. -/
def above (v : ι → ℝ) (t : ℕ) : Finset ι := Finset.univ.filter fun n => t < rank v n

/-- A greater entry has a greater rank. -/
theorem rank_lt {v : ι → ℝ} {a b : ι} (h : v a < v b) : rank v a < rank v b := by
  refine Finset.card_lt_card (Finset.ssubset_iff_subset_ne.mpr ⟨fun m hm => ?_, fun he => ?_⟩)
  · simp only [Finset.mem_filter, Finset.mem_univ, true_and] at hm ⊢
    exact hm.trans h
  · have : a ∈ Finset.univ.filter fun m => v m < v a := by rw [he]; simpa using h
    simp at this

/-- Entries of one rank are equal. -/
theorem eq_of_rank_eq {v : ι → ℝ} {a b : ι} (h : rank v a = rank v b) : v a = v b := by
  rcases lt_trichotomy (v a) (v b) with h' | h' | h'
  · have := rank_lt h'; omega
  · exact h'
  · have := rank_lt h'; omega

/-- A rank is below the number of entries. -/
theorem rank_lt_card (v : ι → ℝ) (n : ι) : rank v n < Fintype.card ι := by
  refine Finset.card_lt_univ_of_notMem (x := n) ?_
  simp

/-- Some entry has the threshold for its rank. -/
theorem exists_rank {v : ι → ℝ} {K t : ℕ} (h1 : K ≤ atLeast v t) (h2 : atLeast v (t + 1) < K) : ∃ n, rank v n = t := by
  by_contra h
  push Not at h
  have : atLeast v t ≤ atLeast v (t + 1) := by
    refine Finset.card_le_card fun n hn => ?_
    simp only [Finset.mem_filter, Finset.mem_univ, true_and] at hn ⊢
    have := h n
    omega
  omega

/-- The sum of any `K` greatest entries is the sum of the entries above the threshold plus the threshold's entry as often as entries
    are missing from `K`. -/
theorem sum_greatest {v : ι → ℝ} {K t : ℕ} (h1 : K ≤ atLeast v t) (h2 : atLeast v (t + 1) < K) (S : Finset ι) (hK : S.card = K)
    (hS : ∀ i ∈ S, ∀ j, j ∉ S → v j ≤ v i) (n : ι) (hn : rank v n = t) :
    ∑ i ∈ S, v i = ∑ i ∈ above v t, v i + ((K : ℝ) - ((above v t).card : ℝ)) * v n := by
  have hcard : (above v t).card < K := h2
  have hsub : above v t ⊆ S := by
    intro a ha
    by_contra hna
    have ha' : t < rank v a := by simpa [above] using ha
    have : S ⊆ above v t := by
      intro i hi
      have hle := hS i hi a hna
      simp only [above, Finset.mem_filter, Finset.mem_univ, true_and]
      rcases hle.lt_or_eq with h | h
      · have := rank_lt h; omega
      · unfold rank at ha' ⊢; rw [← h]; exact ha'
    have := Finset.card_le_card this
    omega
  have hge : ∀ i ∈ S, t ≤ rank v i := by
    intro i hi
    by_contra hlt
    have hsub' : (Finset.univ.filter fun n => t ≤ rank v n) ⊆ S.erase i := by
      intro j hj
      have hj' : t ≤ rank v j := by simpa using hj
      refine Finset.mem_erase.mpr ⟨fun h => hlt (h ▸ hj'), ?_⟩
      by_contra hjS
      have hle := hS i hi j hjS
      rcases hle.lt_or_eq with h | h
      · have := rank_lt h; omega
      · have : rank v j = rank v i := by unfold rank; rw [h]
        omega
    have h3 := Finset.card_le_card hsub'
    have h4 := Finset.card_erase_of_mem hi
    have h5 : 0 < S.card := Finset.card_pos.mpr ⟨i, hi⟩
    unfold atLeast at h1
    omega
  rw [← Finset.sum_sdiff hsub, add_comm]
  congr 1
  have hval : ∀ i ∈ S \ above v t, v i = v n := by
    intro i hi
    obtain ⟨hiS, hia⟩ := Finset.mem_sdiff.mp hi
    have h6 := hge i hiS
    have h7 : ¬ t < rank v i := by simpa [above] using hia
    exact eq_of_rank_eq (by omega)
  rw [Finset.sum_congr rfl hval, Finset.sum_const, nsmul_eq_mul, Finset.card_sdiff_of_subset hsub, hK, Nat.cast_sub hcard.le]

end Cert.Select

end
-- ==== Proof.Chunks.lean ====
/- The two accumulators of a row of losses, element by element at the idealized values: after `N` chunks of eight classes, the sum of
   `N` exponentials, and the sum of `N` picked logits. One lemma per part of the body. -/
module

public import proofs.«01_k».proof.Proof.Rows
public import Idealize.ShloMosaic.Lib.Pointwise
public import Idealize.ShloMosaic.PureOps.Ideal.Laws

@[expose] public section

noncomputable section

namespace Cert.KernelIdeal.Rows

open Idealize.ShloMosaic Idealize.ShloMosaic.TcCoe Cert.KernelIdeal Cert.KernelIdeal.Gen

/-- Row `c` of the class block at lane `l`; zero past the block. -/
def X (x1 : Vec Ideal S1000x1024 .f32) (c : ℕ) (l : Fin 1024) : EReal := if h : c < 1000 then x1 (ix2 (⟨c, h⟩ : Fin 1000) l) else 0

/-- The exponential that chunk `k` adds at sublane `a`, lane `l`. -/
def ex (x1 : Vec Ideal S1000x1024 .f32) (a : Fin 8) (l : Fin 1024) (k : ℕ) : EReal := Ideal.exp (X x1 (8 * k + a.val) l)

/-- The logit that chunk `k` adds at sublane `a`, lane `l`: the class's own where its number is the label, zero elsewhere. -/
def pk (x0 : Vec Ideal S1x1x1024 .i32) (x1 : Vec Ideal S1000x1024 .f32) (a : Fin 8) (l : Fin 1024) (k : ℕ) : EReal :=
  Scalar.select (IntOp.cmpi .eq (IntOp.addi (BitVec.ofNat 32 a.val) (BitVec.ofNat 32 (8 * k))) (x0 (ix3 (0 : Fin 1) (0 : Fin 1) l))) (X x1 (8 * k + a.val) l) 0

/-- A chunk's element is the block's. -/
theorem ck_apply (x1 : Vec Ideal S1000x1024 .f32) (o : ℕ) (h : ∀ a, (![o, 0] : Fin 2 → Nat) a + S8x1024.size a ≤ S1000x1024.size a) (a : Fin 8) (l : Fin 1024) :
    ck x1 o h (ix2 a l) = X x1 (o + a.val) l := by
  have h0 := h 0
  have : o + a.val < 1000 := by have := a.isLt; simp at h0; omega
  unfold X ck
  rw [dif_pos this]
  show x1 _ = x1 _
  congr 1
  funext b
  refine Fin.ext ?_
  fin_cases b
  · show o + 1 * a.val = o + a.val
    omega
  · show 0 + 1 * l.val = l.val
    omega

/-- The row number of a chunk's element. -/
theorem io_apply (a : Fin 8) (l : Fin 1024) : io (ix2 a l) = BitVec.ofNat 32 a.val := by
  show BitVec.ofNat 32 (0 * 8 + a.val) = _
  simp

/-- The sum of the exponentials after 3 chunks. -/
theorem s3_eq (x1 : Vec Ideal S1000x1024 .f32) (a : Fin 8) (l : Fin 1024) : s3 x1 (ix2 a l) = ∑ k ∈ Finset.range 3, ex x1 a l k := by
  simp only [Finset.sum_range_succ, Finset.sum_range_zero]
  unfold s3 k0_pay14 k0_pay11 k0_pay12 k0_pay13
  simp only [pointwise, ck_apply, Nat.reduceMul, ex]

/-- The sum of the picked logits after 3 chunks. -/
theorem l3_eq (x0 : Vec Ideal S1x1x1024 .i32) (x1 : Vec Ideal S1000x1024 .f32) (a : Fin 8) (l : Fin 1024) : l3 x0 x1 (ix2 a l) = ∑ k ∈ Finset.range 3, pk x0 x1 a l k := by
  simp only [Finset.sum_range_succ, Finset.sum_range_zero]
  unfold l3 k0_pay15 k0_pay10 k0_pay11 k0_pay12 k0_pay13
  simp only [pointwise, ck_apply, Nat.reduceMul, io_apply, pk]
  rw [show List.foldl (fun n a_1 => n * ![8, 1024] a_1 + (ix2 a l a_1).val) 0 [0] = a.val from by show 0 * 8 + a.val = a.val; omega]
  rfl

/-- The sum of the exponentials after 7 chunks. -/
theorem s7_eq (x1 : Vec Ideal S1000x1024 .f32) (a : Fin 8) (l : Fin 1024) : s7 x1 (ix2 a l) = ∑ k ∈ Finset.range 7, ex x1 a l k := by
  rw [Finset.sum_range_succ, Finset.sum_range_succ, Finset.sum_range_succ, Finset.sum_range_succ, ← s3_eq x1 a l]
  unfold s7 k0_pay20 k0_pay16 k0_pay17 k0_pay18 k0_pay19
  simp only [pointwise, ck_apply, Nat.reduceMul, ex]

/-- The sum of the picked logits after 7 chunks. -/
theorem l7_eq (x0 : Vec Ideal S1x1x1024 .i32) (x1 : Vec Ideal S1000x1024 .f32) (a : Fin 8) (l : Fin 1024) : l7 x0 x1 (ix2 a l) = ∑ k ∈ Finset.range 7, pk x0 x1 a l k := by
  rw [Finset.sum_range_succ, Finset.sum_range_succ, Finset.sum_range_succ, Finset.sum_range_succ, ← l3_eq x0 x1 a l]
  unfold l7 k0_pay21 k0_pay16 k0_pay17 k0_pay18 k0_pay19 k0_pay10
  simp only [pointwise, ck_apply, Nat.reduceMul, io_apply, pk]
  rfl

/-- The sum of the exponentials after 11 chunks. -/
theorem s11_eq (x1 : Vec Ideal S1000x1024 .f32) (a : Fin 8) (l : Fin 1024) : s11 x1 (ix2 a l) = ∑ k ∈ Finset.range 11, ex x1 a l k := by
  rw [Finset.sum_range_succ, Finset.sum_range_succ, Finset.sum_range_succ, Finset.sum_range_succ, ← s7_eq x1 a l]
  unfold s11 k0_pay26 k0_pay22 k0_pay23 k0_pay24 k0_pay25
  simp only [pointwise, ck_apply, Nat.reduceMul, ex]

/-- The sum of the picked logits after 11 chunks. -/
theorem l11_eq (x0 : Vec Ideal S1x1x1024 .i32) (x1 : Vec Ideal S1000x1024 .f32) (a : Fin 8) (l : Fin 1024) : l11 x0 x1 (ix2 a l) = ∑ k ∈ Finset.range 11, pk x0 x1 a l k := by
  rw [Finset.sum_range_succ, Finset.sum_range_succ, Finset.sum_range_succ, Finset.sum_range_succ, ← l7_eq x0 x1 a l]
  unfold l11 k0_pay27 k0_pay22 k0_pay23 k0_pay24 k0_pay25 k0_pay10
  simp only [pointwise, ck_apply, Nat.reduceMul, io_apply, pk]
  rfl

/-- The sum of the exponentials after 15 chunks. -/
theorem s15_eq (x1 : Vec Ideal S1000x1024 .f32) (a : Fin 8) (l : Fin 1024) : s15 x1 (ix2 a l) = ∑ k ∈ Finset.range 15, ex x1 a l k := by
  rw [Finset.sum_range_succ, Finset.sum_range_succ, Finset.sum_range_succ, Finset.sum_range_succ, ← s11_eq x1 a l]
  unfold s15 k0_pay32 k0_pay28 k0_pay29 k0_pay30 k0_pay31
  simp only [pointwise, ck_apply, Nat.reduceMul, ex]

/-- The sum of the picked logits after 15 chunks. -/
theorem l15_eq (x0 : Vec Ideal S1x1x1024 .i32) (x1 : Vec Ideal S1000x1024 .f32) (a : Fin 8) (l : Fin 1024) : l15 x0 x1 (ix2 a l) = ∑ k ∈ Finset.range 15, pk x0 x1 a l k := by
  rw [Finset.sum_range_succ, Finset.sum_range_succ, Finset.sum_range_succ, Finset.sum_range_succ, ← l11_eq x0 x1 a l]
  unfold l15 k0_pay33 k0_pay28 k0_pay29 k0_pay30 k0_pay31 k0_pay10
  simp only [pointwise, ck_apply, Nat.reduceMul, io_apply, pk]
  rfl

/-- The sum of the exponentials after 19 chunks. -/
theorem s19_eq (x1 : Vec Ideal S1000x1024 .f32) (a : Fin 8) (l : Fin 1024) : s19 x1 (ix2 a l) = ∑ k ∈ Finset.range 19, ex x1 a l k := by
  rw [Finset.sum_range_succ, Finset.sum_range_succ, Finset.sum_range_succ, Finset.sum_range_succ, ← s15_eq x1 a l]
  unfold s19 k0_pay38 k0_pay34 k0_pay35 k0_pay36 k0_pay37
  simp only [pointwise, ck_apply, Nat.reduceMul, ex]

/-- The sum of the picked logits after 19 chunks. -/
theorem l19_eq (x0 : Vec Ideal S1x1x1024 .i32) (x1 : Vec Ideal S1000x1024 .f32) (a : Fin 8) (l : Fin 1024) : l19 x0 x1 (ix2 a l) = ∑ k ∈ Finset.range 19, pk x0 x1 a l k := by
  rw [Finset.sum_range_succ, Finset.sum_range_succ, Finset.sum_range_succ, Finset.sum_range_succ, ← l15_eq x0 x1 a l]
  unfold l19 k0_pay39 k0_pay34 k0_pay35 k0_pay36 k0_pay37 k0_pay10
  simp only [pointwise, ck_apply, Nat.reduceMul, io_apply, pk]
  rfl

/-- The sum of the exponentials after 23 chunks. -/
theorem s23_eq (x1 : Vec Ideal S1000x1024 .f32) (a : Fin 8) (l : Fin 1024) : s23 x1 (ix2 a l) = ∑ k ∈ Finset.range 23, ex x1 a l k := by
  rw [Finset.sum_range_succ, Finset.sum_range_succ, Finset.sum_range_succ, Finset.sum_range_succ, ← s19_eq x1 a l]
  unfold s23 k0_pay44 k0_pay40 k0_pay41 k0_pay42 k0_pay43
  simp only [pointwise, ck_apply, Nat.reduceMul, ex]

/-- The sum of the picked logits after 23 chunks. -/
theorem l23_eq (x0 : Vec Ideal S1x1x1024 .i32) (x1 : Vec Ideal S1000x1024 .f32) (a : Fin 8) (l : Fin 1024) : l23 x0 x1 (ix2 a l) = ∑ k ∈ Finset.range 23, pk x0 x1 a l k := by
  rw [Finset.sum_range_succ, Finset.sum_range_succ, Finset.sum_range_succ, Finset.sum_range_succ, ← l19_eq x0 x1 a l]
  unfold l23 k0_pay45 k0_pay40 k0_pay41 k0_pay42 k0_pay43 k0_pay10
  simp only [pointwise, ck_apply, Nat.reduceMul, io_apply, pk]
  rfl

/-- The sum of the exponentials after 27 chunks. -/
theorem s27_eq (x1 : Vec Ideal S1000x1024 .f32) (a : Fin 8) (l : Fin 1024) : s27 x1 (ix2 a l) = ∑ k ∈ Finset.range 27, ex x1 a l k := by
  rw [Finset.sum_range_succ, Finset.sum_range_succ, Finset.sum_range_succ, Finset.sum_range_succ, ← s23_eq x1 a l]
  unfold s27 k0_pay50 k0_pay46 k0_pay47 k0_pay48 k0_pay49
  simp only [pointwise, ck_apply, Nat.reduceMul, ex]

/-- The sum of the picked logits after 27 chunks. -/
theorem l27_eq (x0 : Vec Ideal S1x1x1024 .i32) (x1 : Vec Ideal S1000x1024 .f32) (a : Fin 8) (l : Fin 1024) : l27 x0 x1 (ix2 a l) = ∑ k ∈ Finset.range 27, pk x0 x1 a l k := by
  rw [Finset.sum_range_succ, Finset.sum_range_succ, Finset.sum_range_succ, Finset.sum_range_succ, ← l23_eq x0 x1 a l]
  unfold l27 k0_pay51 k0_pay46 k0_pay47 k0_pay48 k0_pay49 k0_pay10
  simp only [pointwise, ck_apply, Nat.reduceMul, io_apply, pk]
  rfl

/-- The sum of the exponentials after 31 chunks. -/
theorem s31_eq (x1 : Vec Ideal S1000x1024 .f32) (a : Fin 8) (l : Fin 1024) : s31 x1 (ix2 a l) = ∑ k ∈ Finset.range 31, ex x1 a l k := by
  rw [Finset.sum_range_succ, Finset.sum_range_succ, Finset.sum_range_succ, Finset.sum_range_succ, ← s27_eq x1 a l]
  unfold s31 k0_pay56 k0_pay52 k0_pay53 k0_pay54 k0_pay55
  simp only [pointwise, ck_apply, Nat.reduceMul, ex]

/-- The sum of the picked logits after 31 chunks. -/
theorem l31_eq (x0 : Vec Ideal S1x1x1024 .i32) (x1 : Vec Ideal S1000x1024 .f32) (a : Fin 8) (l : Fin 1024) : l31 x0 x1 (ix2 a l) = ∑ k ∈ Finset.range 31, pk x0 x1 a l k := by
  rw [Finset.sum_range_succ, Finset.sum_range_succ, Finset.sum_range_succ, Finset.sum_range_succ, ← l27_eq x0 x1 a l]
  unfold l31 k0_pay57 k0_pay52 k0_pay53 k0_pay54 k0_pay55 k0_pay10
  simp only [pointwise, ck_apply, Nat.reduceMul, io_apply, pk]
  rfl

/-- The sum of the exponentials after 35 chunks. -/
theorem s35_eq (x1 : Vec Ideal S1000x1024 .f32) (a : Fin 8) (l : Fin 1024) : s35 x1 (ix2 a l) = ∑ k ∈ Finset.range 35, ex x1 a l k := by
  rw [Finset.sum_range_succ, Finset.sum_range_succ, Finset.sum_range_succ, Finset.sum_range_succ, ← s31_eq x1 a l]
  unfold s35 k0_pay62 k0_pay58 k0_pay59 k0_pay60 k0_pay61
  simp only [pointwise, ck_apply, Nat.reduceMul, ex]

/-- The sum of the picked logits after 35 chunks. -/
theorem l35_eq (x0 : Vec Ideal S1x1x1024 .i32) (x1 : Vec Ideal S1000x1024 .f32) (a : Fin 8) (l : Fin 1024) : l35 x0 x1 (ix2 a l) = ∑ k ∈ Finset.range 35, pk x0 x1 a l k := by
  rw [Finset.sum_range_succ, Finset.sum_range_succ, Finset.sum_range_succ, Finset.sum_range_succ, ← l31_eq x0 x1 a l]
  unfold l35 k0_pay63 k0_pay58 k0_pay59 k0_pay60 k0_pay61 k0_pay10
  simp only [pointwise, ck_apply, Nat.reduceMul, io_apply, pk]
  rfl

/-- The sum of the exponentials after 39 chunks. -/
theorem s39_eq (x1 : Vec Ideal S1000x1024 .f32) (a : Fin 8) (l : Fin 1024) : s39 x1 (ix2 a l) = ∑ k ∈ Finset.range 39, ex x1 a l k := by
  rw [Finset.sum_range_succ, Finset.sum_range_succ, Finset.sum_range_succ, Finset.sum_range_succ, ← s35_eq x1 a l]
  unfold s39 k0_pay68 k0_pay64 k0_pay65 k0_pay66 k0_pay67
  simp only [pointwise, ck_apply, Nat.reduceMul, ex]

/-- The sum of the picked logits after 39 chunks. -/
theorem l39_eq (x0 : Vec Ideal S1x1x1024 .i32) (x1 : Vec Ideal S1000x1024 .f32) (a : Fin 8) (l : Fin 1024) : l39 x0 x1 (ix2 a l) = ∑ k ∈ Finset.range 39, pk x0 x1 a l k := by
  rw [Finset.sum_range_succ, Finset.sum_range_succ, Finset.sum_range_succ, Finset.sum_range_succ, ← l35_eq x0 x1 a l]
  unfold l39 k0_pay69 k0_pay64 k0_pay65 k0_pay66 k0_pay67 k0_pay10
  simp only [pointwise, ck_apply, Nat.reduceMul, io_apply, pk]
  rfl

/-- The sum of the exponentials after 43 chunks. -/
theorem s43_eq (x1 : Vec Ideal S1000x1024 .f32) (a : Fin 8) (l : Fin 1024) : s43 x1 (ix2 a l) = ∑ k ∈ Finset.range 43, ex x1 a l k := by
  rw [Finset.sum_range_succ, Finset.sum_range_succ, Finset.sum_range_succ, Finset.sum_range_succ, ← s39_eq x1 a l]
  unfold s43 k0_pay74 k0_pay70 k0_pay71 k0_pay72 k0_pay73
  simp only [pointwise, ck_apply, Nat.reduceMul, ex]

/-- The sum of the picked logits after 43 chunks. -/
theorem l43_eq (x0 : Vec Ideal S1x1x1024 .i32) (x1 : Vec Ideal S1000x1024 .f32) (a : Fin 8) (l : Fin 1024) : l43 x0 x1 (ix2 a l) = ∑ k ∈ Finset.range 43, pk x0 x1 a l k := by
  rw [Finset.sum_range_succ, Finset.sum_range_succ, Finset.sum_range_succ, Finset.sum_range_succ, ← l39_eq x0 x1 a l]
  unfold l43 k0_pay75 k0_pay70 k0_pay71 k0_pay72 k0_pay73 k0_pay10
  simp only [pointwise, ck_apply, Nat.reduceMul, io_apply, pk]
  rfl

/-- The sum of the exponentials after 47 chunks. -/
theorem s47_eq (x1 : Vec Ideal S1000x1024 .f32) (a : Fin 8) (l : Fin 1024) : s47 x1 (ix2 a l) = ∑ k ∈ Finset.range 47, ex x1 a l k := by
  rw [Finset.sum_range_succ, Finset.sum_range_succ, Finset.sum_range_succ, Finset.sum_range_succ, ← s43_eq x1 a l]
  unfold s47 k0_pay80 k0_pay76 k0_pay77 k0_pay78 k0_pay79
  simp only [pointwise, ck_apply, Nat.reduceMul, ex]

/-- The sum of the picked logits after 47 chunks. -/
theorem l47_eq (x0 : Vec Ideal S1x1x1024 .i32) (x1 : Vec Ideal S1000x1024 .f32) (a : Fin 8) (l : Fin 1024) : l47 x0 x1 (ix2 a l) = ∑ k ∈ Finset.range 47, pk x0 x1 a l k := by
  rw [Finset.sum_range_succ, Finset.sum_range_succ, Finset.sum_range_succ, Finset.sum_range_succ, ← l43_eq x0 x1 a l]
  unfold l47 k0_pay81 k0_pay76 k0_pay77 k0_pay78 k0_pay79 k0_pay10
  simp only [pointwise, ck_apply, Nat.reduceMul, io_apply, pk]
  rfl

/-- The sum of the exponentials after 51 chunks. -/
theorem s51_eq (x1 : Vec Ideal S1000x1024 .f32) (a : Fin 8) (l : Fin 1024) : s51 x1 (ix2 a l) = ∑ k ∈ Finset.range 51, ex x1 a l k := by
  rw [Finset.sum_range_succ, Finset.sum_range_succ, Finset.sum_range_succ, Finset.sum_range_succ, ← s47_eq x1 a l]
  unfold s51 k0_pay86 k0_pay82 k0_pay83 k0_pay84 k0_pay85
  simp only [pointwise, ck_apply, Nat.reduceMul, ex]

/-- The sum of the picked logits after 51 chunks. -/
theorem l51_eq (x0 : Vec Ideal S1x1x1024 .i32) (x1 : Vec Ideal S1000x1024 .f32) (a : Fin 8) (l : Fin 1024) : l51 x0 x1 (ix2 a l) = ∑ k ∈ Finset.range 51, pk x0 x1 a l k := by
  rw [Finset.sum_range_succ, Finset.sum_range_succ, Finset.sum_range_succ, Finset.sum_range_succ, ← l47_eq x0 x1 a l]
  unfold l51 k0_pay87 k0_pay82 k0_pay83 k0_pay84 k0_pay85 k0_pay10
  simp only [pointwise, ck_apply, Nat.reduceMul, io_apply, pk]
  rfl

/-- The sum of the exponentials after 55 chunks. -/
theorem s55_eq (x1 : Vec Ideal S1000x1024 .f32) (a : Fin 8) (l : Fin 1024) : s55 x1 (ix2 a l) = ∑ k ∈ Finset.range 55, ex x1 a l k := by
  rw [Finset.sum_range_succ, Finset.sum_range_succ, Finset.sum_range_succ, Finset.sum_range_succ, ← s51_eq x1 a l]
  unfold s55 k0_pay92 k0_pay88 k0_pay89 k0_pay90 k0_pay91
  simp only [pointwise, ck_apply, Nat.reduceMul, ex]

/-- The sum of the picked logits after 55 chunks. -/
theorem l55_eq (x0 : Vec Ideal S1x1x1024 .i32) (x1 : Vec Ideal S1000x1024 .f32) (a : Fin 8) (l : Fin 1024) : l55 x0 x1 (ix2 a l) = ∑ k ∈ Finset.range 55, pk x0 x1 a l k := by
  rw [Finset.sum_range_succ, Finset.sum_range_succ, Finset.sum_range_succ, Finset.sum_range_succ, ← l51_eq x0 x1 a l]
  unfold l55 k0_pay93 k0_pay88 k0_pay89 k0_pay90 k0_pay91 k0_pay10
  simp only [pointwise, ck_apply, Nat.reduceMul, io_apply, pk]
  rfl

/-- The sum of the exponentials after 59 chunks. -/
theorem s59_eq (x1 : Vec Ideal S1000x1024 .f32) (a : Fin 8) (l : Fin 1024) : s59 x1 (ix2 a l) = ∑ k ∈ Finset.range 59, ex x1 a l k := by
  rw [Finset.sum_range_succ, Finset.sum_range_succ, Finset.sum_range_succ, Finset.sum_range_succ, ← s55_eq x1 a l]
  unfold s59 k0_pay98 k0_pay94 k0_pay95 k0_pay96 k0_pay97
  simp only [pointwise, ck_apply, Nat.reduceMul, ex]

/-- The sum of the picked logits after 59 chunks. -/
theorem l59_eq (x0 : Vec Ideal S1x1x1024 .i32) (x1 : Vec Ideal S1000x1024 .f32) (a : Fin 8) (l : Fin 1024) : l59 x0 x1 (ix2 a l) = ∑ k ∈ Finset.range 59, pk x0 x1 a l k := by
  rw [Finset.sum_range_succ, Finset.sum_range_succ, Finset.sum_range_succ, Finset.sum_range_succ, ← l55_eq x0 x1 a l]
  unfold l59 k0_pay99 k0_pay94 k0_pay95 k0_pay96 k0_pay97 k0_pay10
  simp only [pointwise, ck_apply, Nat.reduceMul, io_apply, pk]
  rfl

/-- The sum of the exponentials after 63 chunks. -/
theorem s63_eq (x1 : Vec Ideal S1000x1024 .f32) (a : Fin 8) (l : Fin 1024) : s63 x1 (ix2 a l) = ∑ k ∈ Finset.range 63, ex x1 a l k := by
  rw [Finset.sum_range_succ, Finset.sum_range_succ, Finset.sum_range_succ, Finset.sum_range_succ, ← s59_eq x1 a l]
  unfold s63 k0_pay104 k0_pay100 k0_pay101 k0_pay102 k0_pay103
  simp only [pointwise, ck_apply, Nat.reduceMul, ex]

/-- The sum of the picked logits after 63 chunks. -/
theorem l63_eq (x0 : Vec Ideal S1x1x1024 .i32) (x1 : Vec Ideal S1000x1024 .f32) (a : Fin 8) (l : Fin 1024) : l63 x0 x1 (ix2 a l) = ∑ k ∈ Finset.range 63, pk x0 x1 a l k := by
  rw [Finset.sum_range_succ, Finset.sum_range_succ, Finset.sum_range_succ, Finset.sum_range_succ, ← l59_eq x0 x1 a l]
  unfold l63 k0_pay105 k0_pay100 k0_pay101 k0_pay102 k0_pay103 k0_pay10
  simp only [pointwise, ck_apply, Nat.reduceMul, io_apply, pk]
  rfl

/-- The sum of the exponentials after 67 chunks. -/
theorem s67_eq (x1 : Vec Ideal S1000x1024 .f32) (a : Fin 8) (l : Fin 1024) : s67 x1 (ix2 a l) = ∑ k ∈ Finset.range 67, ex x1 a l k := by
  rw [Finset.sum_range_succ, Finset.sum_range_succ, Finset.sum_range_succ, Finset.sum_range_succ, ← s63_eq x1 a l]
  unfold s67 k0_pay110 k0_pay106 k0_pay107 k0_pay108 k0_pay109
  simp only [pointwise, ck_apply, Nat.reduceMul, ex]

/-- The sum of the picked logits after 67 chunks. -/
theorem l67_eq (x0 : Vec Ideal S1x1x1024 .i32) (x1 : Vec Ideal S1000x1024 .f32) (a : Fin 8) (l : Fin 1024) : l67 x0 x1 (ix2 a l) = ∑ k ∈ Finset.range 67, pk x0 x1 a l k := by
  rw [Finset.sum_range_succ, Finset.sum_range_succ, Finset.sum_range_succ, Finset.sum_range_succ, ← l63_eq x0 x1 a l]
  unfold l67 k0_pay111 k0_pay106 k0_pay107 k0_pay108 k0_pay109 k0_pay10
  simp only [pointwise, ck_apply, Nat.reduceMul, io_apply, pk]
  rfl

/-- The sum of the exponentials after 71 chunks. -/
theorem s71_eq (x1 : Vec Ideal S1000x1024 .f32) (a : Fin 8) (l : Fin 1024) : s71 x1 (ix2 a l) = ∑ k ∈ Finset.range 71, ex x1 a l k := by
  rw [Finset.sum_range_succ, Finset.sum_range_succ, Finset.sum_range_succ, Finset.sum_range_succ, ← s67_eq x1 a l]
  unfold s71 k0_pay116 k0_pay112 k0_pay113 k0_pay114 k0_pay115
  simp only [pointwise, ck_apply, Nat.reduceMul, ex]

/-- The sum of the picked logits after 71 chunks. -/
theorem l71_eq (x0 : Vec Ideal S1x1x1024 .i32) (x1 : Vec Ideal S1000x1024 .f32) (a : Fin 8) (l : Fin 1024) : l71 x0 x1 (ix2 a l) = ∑ k ∈ Finset.range 71, pk x0 x1 a l k := by
  rw [Finset.sum_range_succ, Finset.sum_range_succ, Finset.sum_range_succ, Finset.sum_range_succ, ← l67_eq x0 x1 a l]
  unfold l71 k0_pay117 k0_pay112 k0_pay113 k0_pay114 k0_pay115 k0_pay10
  simp only [pointwise, ck_apply, Nat.reduceMul, io_apply, pk]
  rfl

/-- The sum of the exponentials after 75 chunks. -/
theorem s75_eq (x1 : Vec Ideal S1000x1024 .f32) (a : Fin 8) (l : Fin 1024) : s75 x1 (ix2 a l) = ∑ k ∈ Finset.range 75, ex x1 a l k := by
  rw [Finset.sum_range_succ, Finset.sum_range_succ, Finset.sum_range_succ, Finset.sum_range_succ, ← s71_eq x1 a l]
  unfold s75 k0_pay122 k0_pay118 k0_pay119 k0_pay120 k0_pay121
  simp only [pointwise, ck_apply, Nat.reduceMul, ex]

/-- The sum of the picked logits after 75 chunks. -/
theorem l75_eq (x0 : Vec Ideal S1x1x1024 .i32) (x1 : Vec Ideal S1000x1024 .f32) (a : Fin 8) (l : Fin 1024) : l75 x0 x1 (ix2 a l) = ∑ k ∈ Finset.range 75, pk x0 x1 a l k := by
  rw [Finset.sum_range_succ, Finset.sum_range_succ, Finset.sum_range_succ, Finset.sum_range_succ, ← l71_eq x0 x1 a l]
  unfold l75 k0_pay123 k0_pay118 k0_pay119 k0_pay120 k0_pay121 k0_pay10
  simp only [pointwise, ck_apply, Nat.reduceMul, io_apply, pk]
  rfl

/-- The sum of the exponentials after 79 chunks. -/
theorem s79_eq (x1 : Vec Ideal S1000x1024 .f32) (a : Fin 8) (l : Fin 1024) : s79 x1 (ix2 a l) = ∑ k ∈ Finset.range 79, ex x1 a l k := by
  rw [Finset.sum_range_succ, Finset.sum_range_succ, Finset.sum_range_succ, Finset.sum_range_succ, ← s75_eq x1 a l]
  unfold s79 k0_pay128 k0_pay124 k0_pay125 k0_pay126 k0_pay127
  simp only [pointwise, ck_apply, Nat.reduceMul, ex]

/-- The sum of the picked logits after 79 chunks. -/
theorem l79_eq (x0 : Vec Ideal S1x1x1024 .i32) (x1 : Vec Ideal S1000x1024 .f32) (a : Fin 8) (l : Fin 1024) : l79 x0 x1 (ix2 a l) = ∑ k ∈ Finset.range 79, pk x0 x1 a l k := by
  rw [Finset.sum_range_succ, Finset.sum_range_succ, Finset.sum_range_succ, Finset.sum_range_succ, ← l75_eq x0 x1 a l]
  unfold l79 k0_pay129 k0_pay124 k0_pay125 k0_pay126 k0_pay127 k0_pay10
  simp only [pointwise, ck_apply, Nat.reduceMul, io_apply, pk]
  rfl

/-- The sum of the exponentials after 83 chunks. -/
theorem s83_eq (x1 : Vec Ideal S1000x1024 .f32) (a : Fin 8) (l : Fin 1024) : s83 x1 (ix2 a l) = ∑ k ∈ Finset.range 83, ex x1 a l k := by
  rw [Finset.sum_range_succ, Finset.sum_range_succ, Finset.sum_range_succ, Finset.sum_range_succ, ← s79_eq x1 a l]
  unfold s83 k0_pay134 k0_pay130 k0_pay131 k0_pay132 k0_pay133
  simp only [pointwise, ck_apply, Nat.reduceMul, ex]

/-- The sum of the picked logits after 83 chunks. -/
theorem l83_eq (x0 : Vec Ideal S1x1x1024 .i32) (x1 : Vec Ideal S1000x1024 .f32) (a : Fin 8) (l : Fin 1024) : l83 x0 x1 (ix2 a l) = ∑ k ∈ Finset.range 83, pk x0 x1 a l k := by
  rw [Finset.sum_range_succ, Finset.sum_range_succ, Finset.sum_range_succ, Finset.sum_range_succ, ← l79_eq x0 x1 a l]
  unfold l83 k0_pay135 k0_pay130 k0_pay131 k0_pay132 k0_pay133 k0_pay10
  simp only [pointwise, ck_apply, Nat.reduceMul, io_apply, pk]
  rfl

/-- The sum of the exponentials after 87 chunks. -/
theorem s87_eq (x1 : Vec Ideal S1000x1024 .f32) (a : Fin 8) (l : Fin 1024) : s87 x1 (ix2 a l) = ∑ k ∈ Finset.range 87, ex x1 a l k := by
  rw [Finset.sum_range_succ, Finset.sum_range_succ, Finset.sum_range_succ, Finset.sum_range_succ, ← s83_eq x1 a l]
  unfold s87 k0_pay140 k0_pay136 k0_pay137 k0_pay138 k0_pay139
  simp only [pointwise, ck_apply, Nat.reduceMul, ex]

/-- The sum of the picked logits after 87 chunks. -/
theorem l87_eq (x0 : Vec Ideal S1x1x1024 .i32) (x1 : Vec Ideal S1000x1024 .f32) (a : Fin 8) (l : Fin 1024) : l87 x0 x1 (ix2 a l) = ∑ k ∈ Finset.range 87, pk x0 x1 a l k := by
  rw [Finset.sum_range_succ, Finset.sum_range_succ, Finset.sum_range_succ, Finset.sum_range_succ, ← l83_eq x0 x1 a l]
  unfold l87 k0_pay141 k0_pay136 k0_pay137 k0_pay138 k0_pay139 k0_pay10
  simp only [pointwise, ck_apply, Nat.reduceMul, io_apply, pk]
  rfl

/-- The sum of the exponentials after 91 chunks. -/
theorem s91_eq (x1 : Vec Ideal S1000x1024 .f32) (a : Fin 8) (l : Fin 1024) : s91 x1 (ix2 a l) = ∑ k ∈ Finset.range 91, ex x1 a l k := by
  rw [Finset.sum_range_succ, Finset.sum_range_succ, Finset.sum_range_succ, Finset.sum_range_succ, ← s87_eq x1 a l]
  unfold s91 k0_pay146 k0_pay142 k0_pay143 k0_pay144 k0_pay145
  simp only [pointwise, ck_apply, Nat.reduceMul, ex]

/-- The sum of the picked logits after 91 chunks. -/
theorem l91_eq (x0 : Vec Ideal S1x1x1024 .i32) (x1 : Vec Ideal S1000x1024 .f32) (a : Fin 8) (l : Fin 1024) : l91 x0 x1 (ix2 a l) = ∑ k ∈ Finset.range 91, pk x0 x1 a l k := by
  rw [Finset.sum_range_succ, Finset.sum_range_succ, Finset.sum_range_succ, Finset.sum_range_succ, ← l87_eq x0 x1 a l]
  unfold l91 k0_pay147 k0_pay142 k0_pay143 k0_pay144 k0_pay145 k0_pay10
  simp only [pointwise, ck_apply, Nat.reduceMul, io_apply, pk]
  rfl

/-- The sum of the exponentials after 95 chunks. -/
theorem s95_eq (x1 : Vec Ideal S1000x1024 .f32) (a : Fin 8) (l : Fin 1024) : s95 x1 (ix2 a l) = ∑ k ∈ Finset.range 95, ex x1 a l k := by
  rw [Finset.sum_range_succ, Finset.sum_range_succ, Finset.sum_range_succ, Finset.sum_range_succ, ← s91_eq x1 a l]
  unfold s95 k0_pay152 k0_pay148 k0_pay149 k0_pay150 k0_pay151
  simp only [pointwise, ck_apply, Nat.reduceMul, ex]

/-- The sum of the picked logits after 95 chunks. -/
theorem l95_eq (x0 : Vec Ideal S1x1x1024 .i32) (x1 : Vec Ideal S1000x1024 .f32) (a : Fin 8) (l : Fin 1024) : l95 x0 x1 (ix2 a l) = ∑ k ∈ Finset.range 95, pk x0 x1 a l k := by
  rw [Finset.sum_range_succ, Finset.sum_range_succ, Finset.sum_range_succ, Finset.sum_range_succ, ← l91_eq x0 x1 a l]
  unfold l95 k0_pay153 k0_pay148 k0_pay149 k0_pay150 k0_pay151 k0_pay10
  simp only [pointwise, ck_apply, Nat.reduceMul, io_apply, pk]
  rfl

/-- The sum of the exponentials after 99 chunks. -/
theorem s99_eq (x1 : Vec Ideal S1000x1024 .f32) (a : Fin 8) (l : Fin 1024) : s99 x1 (ix2 a l) = ∑ k ∈ Finset.range 99, ex x1 a l k := by
  rw [Finset.sum_range_succ, Finset.sum_range_succ, Finset.sum_range_succ, Finset.sum_range_succ, ← s95_eq x1 a l]
  unfold s99 k0_pay158 k0_pay154 k0_pay155 k0_pay156 k0_pay157
  simp only [pointwise, ck_apply, Nat.reduceMul, ex]

/-- The sum of the picked logits after 99 chunks. -/
theorem l99_eq (x0 : Vec Ideal S1x1x1024 .i32) (x1 : Vec Ideal S1000x1024 .f32) (a : Fin 8) (l : Fin 1024) : l99 x0 x1 (ix2 a l) = ∑ k ∈ Finset.range 99, pk x0 x1 a l k := by
  rw [Finset.sum_range_succ, Finset.sum_range_succ, Finset.sum_range_succ, Finset.sum_range_succ, ← l95_eq x0 x1 a l]
  unfold l99 k0_pay159 k0_pay154 k0_pay155 k0_pay156 k0_pay157 k0_pay10
  simp only [pointwise, ck_apply, Nat.reduceMul, io_apply, pk]
  rfl

/-- The sum of the exponentials after 103 chunks. -/
theorem s103_eq (x1 : Vec Ideal S1000x1024 .f32) (a : Fin 8) (l : Fin 1024) : s103 x1 (ix2 a l) = ∑ k ∈ Finset.range 103, ex x1 a l k := by
  rw [Finset.sum_range_succ, Finset.sum_range_succ, Finset.sum_range_succ, Finset.sum_range_succ, ← s99_eq x1 a l]
  unfold s103 k0_pay164 k0_pay160 k0_pay161 k0_pay162 k0_pay163
  simp only [pointwise, ck_apply, Nat.reduceMul, ex]

/-- The sum of the picked logits after 103 chunks. -/
theorem l103_eq (x0 : Vec Ideal S1x1x1024 .i32) (x1 : Vec Ideal S1000x1024 .f32) (a : Fin 8) (l : Fin 1024) : l103 x0 x1 (ix2 a l) = ∑ k ∈ Finset.range 103, pk x0 x1 a l k := by
  rw [Finset.sum_range_succ, Finset.sum_range_succ, Finset.sum_range_succ, Finset.sum_range_succ, ← l99_eq x0 x1 a l]
  unfold l103 k0_pay165 k0_pay160 k0_pay161 k0_pay162 k0_pay163 k0_pay10
  simp only [pointwise, ck_apply, Nat.reduceMul, io_apply, pk]
  rfl

/-- The sum of the exponentials after 107 chunks. -/
theorem s107_eq (x1 : Vec Ideal S1000x1024 .f32) (a : Fin 8) (l : Fin 1024) : s107 x1 (ix2 a l) = ∑ k ∈ Finset.range 107, ex x1 a l k := by
  rw [Finset.sum_range_succ, Finset.sum_range_succ, Finset.sum_range_succ, Finset.sum_range_succ, ← s103_eq x1 a l]
  unfold s107 k0_pay170 k0_pay166 k0_pay167 k0_pay168 k0_pay169
  simp only [pointwise, ck_apply, Nat.reduceMul, ex]

/-- The sum of the picked logits after 107 chunks. -/
theorem l107_eq (x0 : Vec Ideal S1x1x1024 .i32) (x1 : Vec Ideal S1000x1024 .f32) (a : Fin 8) (l : Fin 1024) : l107 x0 x1 (ix2 a l) = ∑ k ∈ Finset.range 107, pk x0 x1 a l k := by
  rw [Finset.sum_range_succ, Finset.sum_range_succ, Finset.sum_range_succ, Finset.sum_range_succ, ← l103_eq x0 x1 a l]
  unfold l107 k0_pay171 k0_pay166 k0_pay167 k0_pay168 k0_pay169 k0_pay10
  simp only [pointwise, ck_apply, Nat.reduceMul, io_apply, pk]
  rfl

/-- The sum of the exponentials after 111 chunks. -/
theorem s111_eq (x1 : Vec Ideal S1000x1024 .f32) (a : Fin 8) (l : Fin 1024) : s111 x1 (ix2 a l) = ∑ k ∈ Finset.range 111, ex x1 a l k := by
  rw [Finset.sum_range_succ, Finset.sum_range_succ, Finset.sum_range_succ, Finset.sum_range_succ, ← s107_eq x1 a l]
  unfold s111 k0_pay176 k0_pay172 k0_pay173 k0_pay174 k0_pay175
  simp only [pointwise, ck_apply, Nat.reduceMul, ex]

/-- The sum of the picked logits after 111 chunks. -/
theorem l111_eq (x0 : Vec Ideal S1x1x1024 .i32) (x1 : Vec Ideal S1000x1024 .f32) (a : Fin 8) (l : Fin 1024) : l111 x0 x1 (ix2 a l) = ∑ k ∈ Finset.range 111, pk x0 x1 a l k := by
  rw [Finset.sum_range_succ, Finset.sum_range_succ, Finset.sum_range_succ, Finset.sum_range_succ, ← l107_eq x0 x1 a l]
  unfold l111 k0_pay177 k0_pay172 k0_pay173 k0_pay174 k0_pay175 k0_pay10
  simp only [pointwise, ck_apply, Nat.reduceMul, io_apply, pk]
  rfl

/-- The sum of the exponentials after 115 chunks. -/
theorem s115_eq (x1 : Vec Ideal S1000x1024 .f32) (a : Fin 8) (l : Fin 1024) : s115 x1 (ix2 a l) = ∑ k ∈ Finset.range 115, ex x1 a l k := by
  rw [Finset.sum_range_succ, Finset.sum_range_succ, Finset.sum_range_succ, Finset.sum_range_succ, ← s111_eq x1 a l]
  unfold s115 k0_pay182 k0_pay178 k0_pay179 k0_pay180 k0_pay181
  simp only [pointwise, ck_apply, Nat.reduceMul, ex]

/-- The sum of the picked logits after 115 chunks. -/
theorem l115_eq (x0 : Vec Ideal S1x1x1024 .i32) (x1 : Vec Ideal S1000x1024 .f32) (a : Fin 8) (l : Fin 1024) : l115 x0 x1 (ix2 a l) = ∑ k ∈ Finset.range 115, pk x0 x1 a l k := by
  rw [Finset.sum_range_succ, Finset.sum_range_succ, Finset.sum_range_succ, Finset.sum_range_succ, ← l111_eq x0 x1 a l]
  unfold l115 k0_pay183 k0_pay178 k0_pay179 k0_pay180 k0_pay181 k0_pay10
  simp only [pointwise, ck_apply, Nat.reduceMul, io_apply, pk]
  rfl

/-- The sum of the exponentials after 119 chunks. -/
theorem s119_eq (x1 : Vec Ideal S1000x1024 .f32) (a : Fin 8) (l : Fin 1024) : s119 x1 (ix2 a l) = ∑ k ∈ Finset.range 119, ex x1 a l k := by
  rw [Finset.sum_range_succ, Finset.sum_range_succ, Finset.sum_range_succ, Finset.sum_range_succ, ← s115_eq x1 a l]
  unfold s119 k0_pay188 k0_pay184 k0_pay185 k0_pay186 k0_pay187
  simp only [pointwise, ck_apply, Nat.reduceMul, ex]

/-- The sum of the picked logits after 119 chunks. -/
theorem l119_eq (x0 : Vec Ideal S1x1x1024 .i32) (x1 : Vec Ideal S1000x1024 .f32) (a : Fin 8) (l : Fin 1024) : l119 x0 x1 (ix2 a l) = ∑ k ∈ Finset.range 119, pk x0 x1 a l k := by
  rw [Finset.sum_range_succ, Finset.sum_range_succ, Finset.sum_range_succ, Finset.sum_range_succ, ← l115_eq x0 x1 a l]
  unfold l119 k0_pay189 k0_pay184 k0_pay185 k0_pay186 k0_pay187 k0_pay10
  simp only [pointwise, ck_apply, Nat.reduceMul, io_apply, pk]
  rfl

/-- The sum of the exponentials after 123 chunks. -/
theorem s123_eq (x1 : Vec Ideal S1000x1024 .f32) (a : Fin 8) (l : Fin 1024) : s123 x1 (ix2 a l) = ∑ k ∈ Finset.range 123, ex x1 a l k := by
  rw [Finset.sum_range_succ, Finset.sum_range_succ, Finset.sum_range_succ, Finset.sum_range_succ, ← s119_eq x1 a l]
  unfold s123 k0_pay194 k0_pay190 k0_pay191 k0_pay192 k0_pay193
  simp only [pointwise, ck_apply, Nat.reduceMul, ex]

/-- The sum of the picked logits after 123 chunks. -/
theorem l123_eq (x0 : Vec Ideal S1x1x1024 .i32) (x1 : Vec Ideal S1000x1024 .f32) (a : Fin 8) (l : Fin 1024) : l123 x0 x1 (ix2 a l) = ∑ k ∈ Finset.range 123, pk x0 x1 a l k := by
  rw [Finset.sum_range_succ, Finset.sum_range_succ, Finset.sum_range_succ, Finset.sum_range_succ, ← l119_eq x0 x1 a l]
  unfold l123 k0_pay195 k0_pay190 k0_pay191 k0_pay192 k0_pay193 k0_pay10
  simp only [pointwise, ck_apply, Nat.reduceMul, io_apply, pk]
  rfl

end Cert.KernelIdeal.Rows

end
-- ==== Proof.RowVal.lean ====
/- The row of losses of a grid point at the idealized values: at a lane whose logits are finite and whose label is a class, the logarithm
   of the sum of the exponentials of the logits, minus the label's logit. -/
module

public import proofs.«01_k».proof.Proof.Chunks

@[expose] public section

noncomputable section

namespace Cert.KernelIdeal.Rows

open Idealize.ShloMosaic Idealize.ShloMosaic.TcCoe Cert.KernelIdeal Cert.KernelIdeal.Gen

/-- A sum over the eight sublanes of sums over the 125 chunks is the sum over the thousand classes. -/
theorem sum_chunks {M : Type} [AddCommMonoid M] (f : ℕ → M) :
    ∑ a : Fin 8, ∑ k ∈ Finset.range 125, f (8 * k + a.val) = ∑ c : Fin 1000, f c.val := by
  rw [Finset.sum_comm, ← Fin.sum_univ_eq_sum_range (fun k => ∑ a : Fin 8, f (8 * k + a.val)), ← Fintype.sum_prod_type' (fun (k : Fin 125) (a : Fin 8) => f (8 * k.val + a.val))]
  refine Fintype.sum_equiv (finProdFinEquiv (m := 125) (n := 8)) _ (fun c : Fin (125 * 8) => f c.val) fun p => ?_
  simp only [finProdFinEquiv_apply_val]
  rw [Nat.add_comm]

/-- The sum of real numbers, taken among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The loss at a lane: `r` are the lane's logits, `b` its label. -/
theorem row_apply (x0 : Vec Ideal S1x1x1024 .i32) (x1 : Vec Ideal S1000x1024 .f32) (l : Fin 1024) (r : Fin 1000 → ℝ) (b : Fin 1000)
    (hr : ∀ c, x1 (ix2 c l) = ((r c : ℝ) : EReal)) (hb : x0 (ix3 (0 : Fin 1) (0 : Fin 1) l) = BitVec.ofNat 32 b.val) :
    row x0 x1 (ix2 (0 : Fin 1) l) = ((Real.log (∑ c, Real.exp (r c)) - r b : ℝ) : EReal) := by
  have hX : ∀ c : Fin 1000, X x1 c.val l = ((r c : ℝ) : EReal) := fun c => by unfold X; rw [dif_pos c.isLt]; exact hr c
  have hs : ∑ a : Fin 8, ∑ k ∈ Finset.range 125, ex x1 a l k = ((∑ c, Real.exp (r c) : ℝ) : EReal) := by
    unfold ex
    rw [sum_chunks (fun c => Ideal.exp (X x1 c l)), ← sum_coe]
    refine Finset.sum_congr rfl fun c _ => ?_
    rw [hX c]; rfl
  have hp : ∑ a : Fin 8, ∑ k ∈ Finset.range 125, pk x0 x1 a l k = ((r b : ℝ) : EReal) := by
    have : ∀ (a : Fin 8) (k : ℕ), k ∈ Finset.range 125 → pk x0 x1 a l k = (fun c : ℕ => if c = b.val then X x1 c l else 0) (8 * k + a.val) := by
      intro a k hk
      have hk := Finset.mem_range.mp hk
      unfold pk
      rw [hb]
      have e : IntOp.addi (BitVec.ofNat 32 a.val) (BitVec.ofNat 32 (8 * k)) = BitVec.ofNat 32 (8 * k + a.val) := by
        show BitVec.ofNat 32 a.val + BitVec.ofNat 32 (8 * k) = _
        rw [← BitVec.ofNat_add, Nat.add_comm]
      rw [e]
      have hb' := b.isLt
      have ha := a.isLt
      by_cases h : 8 * k + a.val = b.val
      · rw [h]
        simp [IntOp.cmpi, Scalar.select, h]
      · have hne : BitVec.ofNat 32 (8 * k + a.val) ≠ BitVec.ofNat 32 b.val := fun hh => by
          have := congrArg BitVec.toNat hh
          simp only [BitVec.toNat_ofNat] at this
          omega
        simp [IntOp.cmpi, Scalar.select, h, beq_eq_false_iff_ne.mpr hne]
    rw [Finset.sum_congr rfl fun a _ => Finset.sum_congr rfl (this a), sum_chunks (fun c : ℕ => if c = b.val then X x1 c l else 0)]
    rw [Finset.sum_eq_single b]
    · rw [if_pos rfl]; exact hX b
    · intro c _ hc; rw [if_neg fun h => hc (Fin.ext h)]
    · intro h; exact absurd (Finset.mem_univ _) h
  have hS : ∀ a : Fin 8, s123 x1 (ix2 a l) + ex x1 a l 123 + ex x1 a l 124 = ∑ k ∈ Finset.range 125, ex x1 a l k := fun a => by
    rw [Finset.sum_range_succ, Finset.sum_range_succ, ← s123_eq]
  have hL : ∀ a : Fin 8, l123 x0 x1 (ix2 a l) + pk x0 x1 a l 123 + pk x0 x1 a l 124 = ∑ k ∈ Finset.range 125, pk x0 x1 a l k := fun a => by
    rw [Finset.sum_range_succ, Finset.sum_range_succ, ← l123_eq]
  simp only [ex, pk, Nat.reduceMul] at hS hL
  unfold row k0_pay1 k0_pay198 k0_pay199 k0_pay196 k0_pay197 k0_pay10
  simp only [pointwise, ck_apply, io_apply]
  refine (congrArg₂ (fun u v => Ideal.log u - v) (Finset.sum_congr rfl fun a _ => hS a) (Finset.sum_congr rfl fun a _ => hL a)).trans ?_
  refine (congrArg₂ (fun u v => Ideal.log u - v) hs hp).trans ?_
  rw [Ideal.log_coe, if_neg, EReal.coe_sub]
  have : 0 < ∑ c : Fin 1000, Real.exp (r c) := Finset.sum_pos (fun c _ => Real.exp_pos _) ⟨b, Finset.mem_univ _⟩
  exact not_le.mpr this

end Cert.KernelIdeal.Rows

end
-- ==== Proof.Keys.lean ====
/- The two counted loops of the kernel's last grid point, at the idealized values: the first leaves every entry's rank among the losses,
   the second the greatest rank that at least 4096 entries reach. -/
module

public import proofs.«01_k».proof.Proof.Body
public import proofs.«01_k».proof.Proof.Select
public import proofs.«01_k».proof.Proof.RowVal
public import Idealize.ShloMosaic.Lib.Pointwise
public import Idealize.ShloMosaic.PureOps.Ideal.Laws

@[expose] public section

noncomputable section

namespace Cert.KernelIdeal.Final

open Idealize.ShloMosaic Idealize.ShloMosaic.TcCoe Cert.KernelIdeal Cert.KernelIdeal.Gen Cert.KernelIdeal.Body Cert.Select

/-- The flat number of the entry in row `i`, lane `l`. -/
def place (i : Fin 16) (l : Fin 1024) : Fin 16384 := ⟨1024 * i.val + l.val, by have := i.isLt; have := l.isLt; omega⟩

/-- A sum over rows and lanes is the sum over the flat numbers. -/
theorem sum_place {M : Type} [AddCommMonoid M] (f : Fin 16384 → M) : ∑ i : Fin 16, ∑ l : Fin 1024, f (place i l) = ∑ n, f n := by
  rw [← Fintype.sum_prod_type' (fun (i : Fin 16) (l : Fin 1024) => f (place i l))]
  refine Fintype.sum_equiv (finProdFinEquiv (m := 16) (n := 1024)) _ (fun c : Fin (16 * 1024) => f c) fun p => ?_
  congr 1
  refine Fin.ext ?_
  simp only [finProdFinEquiv_apply_val, place]
  omega

/-- Row and lane are recovered from the flat number. -/
theorem place_surj (n : Fin 16384) : ∃ i l, place i l = n :=
  ⟨⟨n.val / 1024, by have := n.isLt; omega⟩, ⟨n.val % 1024, by omega⟩, Fin.ext (by simp only [place]; omega)⟩

/-- A sum along the list of the numbers below `N`, for a name of `N`. -/
theorem sum_cast {N M : ℕ} (h : N = M) (f : Fin M → ℕ) : ((List.finRange N).map fun a => f (a.cast h)).sum = ∑ m, f m := by
  subst h
  rw [Fin.sum_univ_def]
  rfl

/-- The flat number as the kernel computes it. -/
theorem place_word (i : Fin 16) (l : Fin 1024) (t : ℕ) (ht : t < 16384) :
    (IntOp.cmpi CmpIPredicate.eq (IntOp.addi (IntOp.muli (BitVec.ofNat 32 i.val) 1024#32) (BitVec.ofNat 32 l.val)) (Scf.iv 0#32 1#32 t) = 1#1)
      ↔ (place i l).val = t := by
  have e : IntOp.addi (IntOp.muli (BitVec.ofNat 32 i.val) 1024#32) (BitVec.ofNat 32 l.val) = BitVec.ofNat 32 (place i l).val := by
    show BitVec.ofNat 32 i.val * 1024#32 + BitVec.ofNat 32 l.val = BitVec.ofNat 32 (1024 * i.val + l.val)
    rw [BitVec.ofNat_add, Nat.mul_comm, BitVec.ofNat_mul]
  have e' : Scf.iv 0#32 1#32 t = BitVec.ofNat 32 t := by
    show 0#32 + BitVec.ofNat 32 t * 1#32 = _
    rw [BitVec.mul_one, BitVec.zero_add]
  rw [e, e']
  have hp := (place i l).isLt
  show BitVec.ofBool (BitVec.ofNat 32 (place i l).val == BitVec.ofNat 32 t) = 1#1 ↔ _
  constructor
  · intro h
    have h' : (BitVec.ofNat 32 (place i l).val == BitVec.ofNat 32 t) = true := by
      cases hb : (BitVec.ofNat 32 (place i l).val == BitVec.ofNat 32 t)
      · rw [hb] at h; exact absurd h (by decide)
      · rfl
    have := congrArg BitVec.toNat (eq_of_beq h')
    simp only [BitVec.toNat_ofNat] at this
    omega
  · intro h; rw [h]; simp

section
variable (L : Vec Ideal S16x1024 .f32) (v : Fin 16384 → ℝ) (hL : ∀ i l, L (ix2 i l) = ((v (place i l) : ℝ) : EReal))
include hL

/-- One trip of the first loop adds one where the entry of the trip's number is strictly below. -/
theorem pay5_apply (t : Fin k0_t1_loop.trips) (n : Fin 16384) (hn : n.val = t.val) (acc : IVec S16x1024 32) (i : Fin 16) (l : Fin 1024) :
    k0_pay5 L t acc (ix2 i l) = acc (ix2 i l) + BitVec.ofNat 32 (if v n < v (place i l) then 1 else 0) := by
  have hs : ∀ (a : Fin 16) (b : Fin 1024),
      Scalar.select (IntOp.cmpi CmpIPredicate.eq (IntOp.addi (IntOp.muli (BitVec.ofNat 32 (List.foldl (fun n c => n * ![16, 1024] c + (ix2 a b c).val) 0 [0])) 1024#32)
        (BitVec.ofNat 32 (List.foldl (fun n c => n * ![16, 1024] c + (ix2 a b c).val) 0 [1]))) (Scf.iv 0#32 1#32 t.val)) (L (ix2 a b)) 0
      = (fun m : Fin 16384 => if m = n then ((v m : ℝ) : EReal) else 0) (place a b) := by
    intro a b
    rw [show List.foldl (fun n c => n * ![16, 1024] c + (ix2 a b c).val) 0 [0] = a.val from by show 0 * 16 + a.val = _; omega,
      show List.foldl (fun n c => n * ![16, 1024] c + (ix2 a b c).val) 0 [1] = b.val from by show 0 * 1024 + b.val = _; omega]
    have hw := place_word a b t.val (hn ▸ n.isLt)
    show (if (_ : BitVec 1) = 1#1 then _ else _) = _
    by_cases h : place a b = n
    · rw [if_pos (hw.mpr (by rw [h, hn])), hL]; simp [h]
    · rw [if_neg fun hh => h (Fin.ext ((hw.mp hh).trans hn.symm))]; simp [h]
  unfold k0_pay5
  simp only [pointwise]
  rw [Finset.sum_congr rfl fun a _ => Finset.sum_congr rfl fun b _ => hs a b, sum_place (fun m : Fin 16384 => if m = n then ((v m : ℝ) : EReal) else 0)]
  rw [Finset.sum_ite_eq' Finset.univ n, if_pos (Finset.mem_univ _), hL]
  show acc (ix2 i l) + _ = _
  congr 1
  by_cases h : v n < v (place i l)
  · rw [if_pos h, if_pos (EReal.coe_lt_coe_iff.mpr h)]
  · rw [if_neg h, if_neg fun hh => h (EReal.coe_lt_coe_iff.mp hh)]

/-- The first loop leaves the rank of every entry. -/
theorem keys_apply (i : Fin 16) (l : Fin 1024) : keys L (ix2 i l) = BitVec.ofNat 32 (rank v (place i l)) := by
  have htr : k0_t1_loop.trips = 16384 := rfl
  have step : ∀ (xs : List (Fin k0_t1_loop.trips)) (acc : IVec S16x1024 32),
      (xs.foldl (fun acc a => k0_pay5 L a acc) acc) (ix2 i l)
        = acc (ix2 i l) + BitVec.ofNat 32 ((xs.map fun a => if v (a.cast htr) < v (place i l) then 1 else 0).sum) := by
    intro xs
    induction xs with
    | nil => intro acc; simp
    | cons a xs ih =>
      intro acc
      rw [List.foldl_cons, ih, pay5_apply L v hL a (a.cast htr) rfl, List.map_cons, List.sum_cons, BitVec.ofNat_add, BitVec.add_assoc]
  unfold keys
  rw [Scf.fold_eq, step]
  unfold k0_pay4
  show 0#32 + _ = _
  rw [BitVec.zero_add]
  refine congrArg (BitVec.ofNat 32) ?_
  unfold rank
  rw [Finset.card_filter]
  exact sum_cast htr fun m => if v m < v (place i l) then 1 else 0

end

/-- The number of entries whose word is at least `u`, as the second loop takes it, where the words hold numbers below 16384. -/
theorem pay6_apply (b : IVec S16x1024 32) (v : Fin 16384 → ℝ) (hb : ∀ i l, b (ix2 i l) = BitVec.ofNat 32 (rank v (place i l)))
    (p q : BitVec 32) (hu : (q ||| p).toNat < 2147483648) :
    k0_pay6 (F := Ideal) b p q = (((atLeast v (q ||| p).toNat : ℕ) : ℝ) : EReal) := by
  have hs : ∀ (i : Fin 16) (l : Fin 1024), Scalar.select (IntOp.cmpi CmpIPredicate.sge (b (ix2 i l)) (Scalar.ori q p)) 1 0
      = (fun n => (((if (q ||| p).toNat ≤ rank v n then 1 else 0 : ℝ)) : EReal)) (place i l) := by
    intro i l
    have hr := rank_lt_card v (place i l)
    simp only [Fintype.card_fin] at hr
    have hz : (Scalar.ori q p).toInt = ((q ||| p).toNat : ℤ) := by
      show (q ||| p).toInt = _
      rw [BitVec.toInt_eq_toNat_cond]; omega
    have hk : (BitVec.ofNat 32 (rank v (place i l))).toInt = (rank v (place i l) : ℤ) := by
      rw [BitVec.toInt_eq_toNat_cond, BitVec.toNat_ofNat]; omega
    rw [hb]
    show (if BitVec.ofBool (decide ((Scalar.ori q p).toInt ≤ (BitVec.ofNat 32 (rank v (place i l))).toInt)) = 1#1 then (1 : EReal) else 0) = _
    rw [hz, hk]
    by_cases h : (q ||| p).toNat ≤ rank v (place i l)
    · rw [decide_eq_true (by omega), if_pos (by decide)]; show (1 : EReal) = ((if _ then (1 : ℝ) else 0 : ℝ) : EReal); rw [if_pos h]; rfl
    · rw [decide_eq_false (by omega), if_neg (by decide)]; show (0 : EReal) = ((if _ then (1 : ℝ) else 0 : ℝ) : EReal); rw [if_neg h]; rfl
  unfold k0_pay6
  simp only [pointwise]
  rw [Finset.sum_congr rfl fun a _ => Finset.sum_congr rfl fun c _ => hs a c,
    sum_place (fun n => (((if (q ||| p).toNat ≤ rank v n then 1 else 0 : ℝ)) : EReal)), Rows.sum_coe]
  refine congrArg (fun r : ℝ => (r : EReal)) ?_
  unfold atLeast
  rw [Finset.card_filter]
  push_cast
  rfl

end Cert.KernelIdeal.Final

end
-- ==== Proof.Blocks.lean ====
/- The launch's input blocks, read back to the kernel's two arguments: at grid point `i`, the logits block's entry of class `c` and lane `l`
   is the logit of class `c` of sample `1024 i + l`, and the labels block's entry of lane `l` is that sample's label. -/
module

public import proofs.«01_k».proof.Proof.Launch
public import proofs.«01_k».proof.Proof.Keys
public import Idealize.ShloMosaic.Lib.ValueLayout

@[expose] public section

noncomputable section

namespace Cert.KernelIdeal.Blocks

open Idealize.ShloMosaic Idealize.ShloMosaic.TcCoe Cert.KernelIdeal Cert.KernelIdeal.Gen Cert.KernelIdeal.Launch Cert.KernelIdeal.Final
open Cert.KernelIdeal.Rows

variable {F : FTy → Type} [FloatOps F] (m : (ℓ : Loc nD τ sig) → Buf (Elt F) ℓ) (c : Dev nD)

/-- The launch finds the logits transposed. -/
theorem logits_at (k : Fin 1000) (n : Fin 16384) :
    (V m c main_v0 : Vec F S1000x16384 .f32) (ix2 k n) = (m ((c.tc : Thread nD τ).loc main_arg0) : Vec F S16384x1000 .f32) (ix2 n k) := by
  have e : (V m c main_v0 : Vec F S1000x16384 .f32)
      = transpose S1000x16384 [1, 0] (m ((c.tc : Thread nD τ).loc main_arg0) : Vec F S16384x1000 .f32) transposes_S16384x1000_S1000x16384_1_0 := by
    show StableHlo.after (List.flatten [hostOps0]) (fun b => m (c, b)) (Proc.devRef .tc main_v0) = _
    simp only [hostOps0, List.flatten_cons, List.flatten_nil, List.append_nil]
    rfl
  rw [e]
  exact transpose_apply _ _ _ (ix2 k n) (ix2 n k) fun a => match a with | ⟨0, _⟩ => rfl | ⟨1, _⟩ => rfl

/-- The launch finds the labels laid out as sixteen rows. -/
theorem labels_at (i : Fin 16) (l : Fin 1024) :
    (V m c main_v1 : IVec S16x1x1024 32) (ix3 i (0 : Fin 1) l) = (m ((c.tc : Thread nD τ).loc main_arg1) : IVec S16384 32) (ix1 (place i l)) := by
  have e : (V m c main_v1 : IVec S16x1x1024 32)
      = shapeCast S16x1x1024 (m ((c.tc : Thread nD τ).loc main_arg1) : IVec S16384 32) shapeCasts_S16384_S16x1x1024 := by
    show StableHlo.after (List.flatten [hostOps0]) (fun b => m (c, b)) (Proc.devRef .tc main_v1) = _
    simp only [hostOps0, List.flatten_cons, List.flatten_nil, List.append_nil]
    rfl
  rw [e]
  refine shapeCast_apply _ _ _ _ ?_
  have e1 : ((⟨1, ![16384]⟩ : Shape).rowMajor (ix1 (place i l))).val = 1024 * i.val + l.val := Shape.rowMajor_val_one _
  have e3 : ((⟨3, ![16, 1, 1024]⟩ : Shape).rowMajor (ix3 i (0 : Fin 1) l)).val = (i.val * 1 + 0) * 1024 + l.val := Shape.rowMajor_val_three _
  refine e1.trans (Eq.trans ?_ e3.symm)
  omega

/-- The block's first index at a grid point, along the axis the grid walks. -/
theorem coord_toNat (i : Fin 16) : (BitVec.ofNat 32 (grid0.coords (pt i) 0).val).toNat = i.val := by
  rw [coord]
  have := i.isLt
  simp only [pt, BitVec.toNat_ofNat]
  omega

/-- The logits block of grid point `i`. -/
theorem logits_block (i : Fin 16) (k : Fin 1000) (l : Fin 1024) :
    (iblk m c 1 (pt i) : Vec F S1000x1024 .f32) (ix2 k l) = (m ((c.tc : Thread nD τ).loc main_arg0) : Vec F S16384x1000 .f32) (ix2 (place i l) k) := by
  rw [← logits_at m c k (place i l)]
  show (V m c main_v0 : Vec F S1000x16384 .f32) (((cfg0.win 1).blk (pt i)).view.emb (ix2 k l)) = _
  refine congrArg _ (funext fun a => Fin.ext ?_)
  have h := coord_toNat i
  match a with
  | ⟨0, _⟩ =>
    show (0#32).toNat * 1000 + 1 * k.val = k.val
    simp
  | ⟨1, _⟩ =>
    show (BitVec.ofNat 32 (grid0.coords (pt i) 0).val).toNat * 1024 + 1 * l.val = 1024 * i.val + l.val
    omega

/-- The labels block of grid point `i`. -/
theorem labels_block (i : Fin 16) (l : Fin 1024) :
    (iblk m c 0 (pt i) : IVec S1x1x1024 32) (ix3 (0 : Fin 1) (0 : Fin 1) l) = (m ((c.tc : Thread nD τ).loc main_arg1) : IVec S16384 32) (ix1 (place i l)) := by
  rw [← labels_at m c i l]
  show (V m c main_v1 : IVec S16x1x1024 32) (((cfg0.win 0).blk (pt i)).view.emb (ix3 (0 : Fin 1) (0 : Fin 1) l)) = _
  refine congrArg _ (funext fun a => Fin.ext ?_)
  have h := coord_toNat i
  match a with
  | ⟨0, _⟩ =>
    show (BitVec.ofNat 32 (grid0.coords (pt i) 0).val).toNat * 1 + 1 * 0 = i.val
    omega
  | ⟨1, _⟩ => rfl
  | ⟨2, _⟩ =>
    show (0#32).toNat * 1024 + 1 * l.val = l.val
    simp

end Cert.KernelIdeal.Blocks

namespace Cert.KernelIdeal.Blocks

open Idealize.ShloMosaic Idealize.ShloMosaic.TcCoe Cert.KernelIdeal Cert.KernelIdeal.Gen Cert.KernelIdeal.Launch Cert.KernelIdeal.Final
open Cert.KernelIdeal.Rows

variable (m : (ℓ : Loc nD τ sig) → Buf (Elt Ideal) ℓ) (c : Dev nD)

/-- The filled scratch, over real logits and labels that name a class: row `i`, lane `l` holds the loss of sample `1024 i + l`. -/
theorem want_apply (r : Fin 16384 → Fin 1000 → ℝ) (b : Fin 16384 → Fin 1000)
    (hx : ∀ n k, (m ((c.tc : Thread nD τ).loc main_arg0) : Vec Ideal S16384x1000 .f32) (ix2 n k) = ((r n k : ℝ) : EReal))
    (hy : ∀ n, (m ((c.tc : Thread nD τ).loc main_arg1) : IVec S16384 32) (ix1 n) = BitVec.ofNat 32 (b n).val) (i : Fin 16) (l : Fin 1024) :
    want m c (ix2 i l) = ((Real.log (∑ k, Real.exp (r (place i l) k)) - r (place i l) (b (place i l)) : ℝ) : EReal) :=
  row_apply (iblk m c 0 (pt i)) (iblk m c 1 (pt i)) l (r (place i l)) (b (place i l))
    (fun k => (logits_block m c i k l).trans (hx _ _)) ((labels_block m c i l).trans (hy _))

end Cert.KernelIdeal.Blocks

end
-- ==== Proof.Bisect.lean ====
/- The kernel's second loop at the idealized values: a bisection over 31 bits that finds the greatest rank at least 4096 entries reach. -/
module

public import proofs.«01_k».proof.Proof.Keys

@[expose] public section

noncomputable section

namespace Cert.KernelIdeal.Final

open Idealize.ShloMosaic Idealize.ShloMosaic.TcCoe Cert.KernelIdeal Cert.KernelIdeal.Gen Cert.KernelIdeal.Body Cert.Select

/-- The word the count is compared with is 4096. -/
theorem ofBits_4096 : Ideal.ofBits .f32 0x45800000#32 = ((4096 : ℝ) : EReal) := by
  simp [Ideal.ofBits, Ideal.ieee, -EReal.coe_mul]
  norm_num

/-- What the bisection holds before the trip that tests bit `e - 1`: the bit, and the greatest multiple of `2 ^ e` reached. -/
def Holds (v : Fin 16384 → ℝ) (e : ℕ) (s : BitVec 32 × BitVec 32) : Prop :=
  s.1.toNat = 2 ^ e / 2 ∧ 2 ^ e ∣ s.2.toNat ∧ s.2.toNat + 2 ^ e ≤ 2147483648 ∧ 4096 ≤ atLeast v s.2.toNat ∧ atLeast v (s.2.toNat + 2 ^ e) < 4096

/-- The bisection starts with nothing found and the top bit to test. -/
theorem holds_init (v : Fin 16384 → ℝ) : Holds v 31 (1073741824#32, 0#32) := by
  refine ⟨by decide, by decide, by decide, ?_, ?_⟩
  · show 4096 ≤ (Finset.univ.filter fun n => 0 ≤ rank v n).card
    rw [Finset.filter_true_of_mem fun n _ => Nat.zero_le _, Finset.card_univ, Fintype.card_fin]
    omega
  · show (Finset.univ.filter fun n => 0 + 2 ^ 31 ≤ rank v n).card < 4096
    rw [Finset.filter_false_of_mem fun n _ => ?_]
    · simp
    · have := rank_lt_card v n
      simp only [Fintype.card_fin] at this
      omega

/-- One trip keeps what the bisection holds, one bit further. -/
theorem holds_step (b : IVec S16x1024 32) (v : Fin 16384 → ℝ) (hb : ∀ i l, b (ix2 i l) = BitVec.ofNat 32 (rank v (place i l)))
    (e : ℕ) (s : BitVec 32 × BitVec 32) (h : Holds v (e + 1) s) : Holds v e (bstep Ideal b s) := by
  obtain ⟨p, q⟩ := s
  obtain ⟨h1, h2, h3, h4, h5⟩ := h
  simp only at h1 h2 h3 h4 h5
  have hpow : 2 ^ (e + 1) = 2 * 2 ^ e := by rw [pow_succ, Nat.mul_comm]
  have hpos : 0 < 2 ^ e := Nat.two_pow_pos e
  have hp : p.toNat = 2 ^ e := by rw [h1, hpow]; omega
  have hor : (q ||| p).toNat = q.toNat + 2 ^ e := by
    obtain ⟨a, ha⟩ := h2
    rw [BitVec.toNat_or, hp, ha]
    exact (Nat.two_pow_add_eq_or_of_lt (by omega) a).symm
  have hcmp : Scalar.cmpf .oge (k0_pay6 (F := Ideal) b p q) (Scalar.ofBits .f32 0x45800000#32)
      = BitVec.ofBool (decide (4096 ≤ atLeast v (q ||| p).toNat)) := by
    rw [pay6_apply b v hb p q (by omega)]
    show BitVec.ofBool (decide (Ideal.ofBits .f32 0x45800000#32 ≤ _)) = _
    refine congrArg BitVec.ofBool (decide_eq_decide.mpr ?_)
    show Ideal.ofBits .f32 0x45800000#32 ≤ _ ↔ _
    rw [ofBits_4096, EReal.coe_le_coe_iff]
    exact_mod_cast Iff.rfl
  have hshr : (Scalar.shrui p 1#32).toNat = 2 ^ e / 2 := by
    show (p >>> (1#32).toNat).toNat = _
    simp [hp, Nat.shiftRight_eq_div_pow]
  have hd : 2 ^ e ∣ q.toNat := (Dvd.intro_left 2 hpow.symm).trans h2
  unfold bstep
  simp only
  rw [hcmp]
  by_cases hc : 4096 ≤ atLeast v (q ||| p).toNat
  · rw [decide_eq_true hc]
    show Holds v e (Scalar.shrui p 1#32, q ||| p)
    refine ⟨hshr, ?_, ?_, hc, ?_⟩
    · rw [hor]; exact (Nat.dvd_add_right hd).mpr (dvd_refl _)
    · simp only; omega
    · simp only
      rw [hor, Nat.add_assoc, ← Nat.two_mul, ← hpow]; exact h5
  · rw [decide_eq_false hc]
    show Holds v e (Scalar.shrui p 1#32, q)
    refine ⟨hshr, hd, ?_, h4, ?_⟩
    · simp only; omega
    · simp only
      rw [← hor]; omega

/-- The second loop's result: at least 4096 entries reach it, fewer reach one more. -/
theorem thr_spec (b : IVec S16x1024 32) (v : Fin 16384 → ℝ) (hb : ∀ i l, b (ix2 i l) = BitVec.ofNat 32 (rank v (place i l))) :
    4096 ≤ atLeast v (thr Ideal b).toNat ∧ atLeast v ((thr Ideal b).toNat + 1) < 4096 ∧ (thr Ideal b).toNat < 2147483648 := by
  have htr : k0_t2_loop.trips = 31 := rfl
  have step : ∀ (xs : List (Fin k0_t2_loop.trips)) (e : ℕ) (s : BitVec 32 × BitVec 32), Holds v (e + xs.length) s →
      Holds v e (xs.foldl (fun acc _ => bstep Ideal b acc) s) := by
    intro xs
    induction xs with
    | nil => intro e s h; exact h
    | cons a xs ih =>
      intro e s h
      rw [List.foldl_cons]
      exact ih e _ (holds_step b v hb (e + xs.length) s (by rw [List.length_cons, ← Nat.add_assoc] at h; exact h))
  have h := step (List.finRange k0_t2_loop.trips) 0 (1073741824#32, 0#32) (by
    rw [List.length_finRange, htr]; exact holds_init v)
  unfold thr
  rw [Scf.fold_eq]
  obtain ⟨-, -, h3, h4, h5⟩ := h
  exact ⟨h4, h5, by omega⟩

end Cert.KernelIdeal.Final

end
-- ==== Proof.FinVal.lean ====
/- The kernel's result at the idealized values, from the scratch of finite losses: the sum of the losses outside any 4096 greatest ones,
   over 16384. -/
module

public import proofs.«01_k».proof.Proof.Bisect

@[expose] public section

noncomputable section

namespace Cert.KernelIdeal.Final

open Idealize.ShloMosaic Idealize.ShloMosaic.TcCoe Cert.KernelIdeal Cert.KernelIdeal.Gen Cert.KernelIdeal.Body Cert.Select

/-- The divisor's word is 16384. -/
theorem ofBits_16384 : Ideal.ofBits .f32 0x46800000#32 = ((16384 : ℝ) : EReal) := by
  simp [Ideal.ofBits, Ideal.ieee, -EReal.coe_mul]
  norm_num

/-- The maximum's first value is minus infinity. -/
theorem ofBits_neg_inf : Ideal.ofBits .f32 0xFF800000#32 = ⊥ := by
  simp [Ideal.ofBits, Ideal.ieee]

/-- A rank's word read as a signed number is the rank. -/
theorem toInt_rank (v : Fin 16384 → ℝ) (n : Fin 16384) : (BitVec.ofNat 32 (rank v n)).toInt = (rank v n : ℤ) := by
  have hr := rank_lt_card v n
  simp only [Fintype.card_fin] at hr
  rw [BitVec.toInt_eq_toNat_cond, BitVec.toNat_ofNat]
  omega

section
variable (L : Vec Ideal S16x1024 .f32) (v : Fin 16384 → ℝ) (b : IVec S16x1024 32) (t : BitVec 32) (ht : t.toNat < 2147483648)
  (hL : ∀ i l, L (ix2 i l) = ((v (place i l) : ℝ) : EReal)) (hb : ∀ i l, b (ix2 i l) = BitVec.ofNat 32 (rank v (place i l)))

include ht in
/-- The comparison of a rank's word with the threshold's. -/
theorem sgt_apply (n : Fin 16384) : (IntOp.cmpi CmpIPredicate.sgt (BitVec.ofNat 32 (rank v n)) t = 1#1) ↔ n ∈ above v t.toNat := by
  have hz : t.toInt = (t.toNat : ℤ) := by rw [BitVec.toInt_eq_toNat_cond]; omega
  show BitVec.ofBool (decide (t.toInt < (BitVec.ofNat 32 (rank v n)).toInt)) = 1#1 ↔ _
  rw [hz, toInt_rank]
  simp only [above, Finset.mem_filter, Finset.mem_univ, true_and]
  by_cases h : t.toNat < rank v n
  · rw [decide_eq_true (by omega)]; simp [h]
  · rw [decide_eq_false (by omega)]; simp [h]

include hL in
/-- The sum of all losses. -/
theorem pay3_apply : k0_pay3 L = ((∑ n, v n : ℝ) : EReal) := by
  unfold k0_pay3
  simp only [pointwise]
  rw [Finset.sum_congr rfl fun a _ => Finset.sum_congr rfl fun c _ => hL a c, sum_place (fun n => ((v n : ℝ) : EReal)), Rows.sum_coe]

include ht hL hb in
/-- The sum of the losses above the threshold. -/
theorem pay9_apply : k0_pay9 L b t (ix3 (0 : Fin 1) (0 : Fin 1) (0 : Fin 1)) = ((∑ n ∈ above v t.toNat, v n : ℝ) : EReal) := by
  have hs : ∀ (i : Fin 16) (l : Fin 1024), Scalar.select (IntOp.cmpi CmpIPredicate.sgt (b (ix2 i l)) t) (L (ix2 i l)) 0
      = (fun n => if n ∈ above v t.toNat then ((v n : ℝ) : EReal) else 0) (place i l) := by
    intro i l
    rw [hb, hL]
    exact if_congr (sgt_apply v t ht (place i l)) rfl rfl
  unfold k0_pay9
  simp only [pointwise]
  rw [Finset.sum_congr rfl fun a _ => Finset.sum_congr rfl fun c _ => hs a c,
    sum_place (fun n => if n ∈ above v t.toNat then ((v n : ℝ) : EReal) else 0), Finset.sum_ite_mem, Finset.univ_inter, Rows.sum_coe]

include ht hb in
/-- The number of losses above the threshold. -/
theorem pay8_apply : k0_pay8 (F := Ideal) b t = ((((above v t.toNat).card : ℕ) : ℝ) : EReal) := by
  have hs : ∀ (i : Fin 16) (l : Fin 1024), Scalar.select (IntOp.cmpi CmpIPredicate.sgt (b (ix2 i l)) t) 1 0
      = (fun n => if n ∈ above v t.toNat then (((1 : ℝ)) : EReal) else 0) (place i l) := by
    intro i l
    rw [hb]
    exact if_congr (sgt_apply v t ht (place i l)) rfl rfl
  unfold k0_pay8
  simp only [pointwise]
  rw [Finset.sum_congr rfl fun a _ => Finset.sum_congr rfl fun c _ => hs a c,
    sum_place (fun n => if n ∈ above v t.toNat then (((1 : ℝ)) : EReal) else 0), Finset.sum_ite_mem, Finset.univ_inter, Rows.sum_coe,
    Finset.sum_const, nsmul_eq_mul, mul_one]

include hL hb in
/-- The threshold's loss: the maximum over the entries of the threshold's rank. -/
theorem pay7_apply (n : Fin 16384) (hn : rank v n = t.toNat) : k0_pay7 L b t = ((v n : ℝ) : EReal) := by
  have htw : t = BitVec.ofNat 32 (rank v n) := by rw [hn]; simp
  have hs : ∀ (p : Fin 16 × Fin 1024), Scalar.select (IntOp.cmpi CmpIPredicate.eq (b (ix2 p.1 p.2)) t) (L (ix2 p.1 p.2)) ⊥
      = if rank v (place p.1 p.2) = rank v n then ((v n : ℝ) : EReal) else ⊥ := by
    intro p
    rw [hb, hL]
    have h1 := rank_lt_card v n
    have h2 := rank_lt_card v (place p.1 p.2)
    simp only [Fintype.card_fin] at h1 h2
    show (if BitVec.ofBool (BitVec.ofNat 32 (rank v (place p.1 p.2)) == t) = 1#1 then _ else _) = _
    rw [htw]
    by_cases h : rank v (place p.1 p.2) = rank v n
    · rw [if_pos h, h, if_pos (by simp), eq_of_rank_eq h]
    · have hne : BitVec.ofNat 32 (rank v (place p.1 p.2)) ≠ BitVec.ofNat 32 (rank v n) := fun hh => by
        have := congrArg BitVec.toNat hh
        simp only [BitVec.toNat_ofNat] at this
        omega
      rw [if_neg h, beq_eq_false_iff_ne.mpr hne, if_neg (by decide)]
  unfold k0_pay7
  simp only [pointwise, ofBits_neg_inf]
  obtain ⟨i, l, hp⟩ := place_surj n
  refine le_antisymm ?_ ?_
  · rw [Finset.fold_max_le]
    refine ⟨bot_le, fun p _ => ?_⟩
    refine (hs p).le.trans ?_
    split_ifs
    · exact le_rfl
    · exact bot_le
  · rw [Finset.le_fold_max]
    refine .inr ⟨(i, l), Finset.mem_univ _, ?_⟩
    refine le_of_eq ?_
    refine Eq.trans ?_ (hs (i, l)).symm
    rw [if_pos]
    rw [hp]

end

/-- The kernel's result: `S` are any 4096 greatest losses. -/
theorem fin_apply (L : Vec Ideal S16x1024 .f32) (v : Fin 16384 → ℝ) (hL : ∀ i l, L (ix2 i l) = ((v (place i l) : ℝ) : EReal))
    (S : Finset (Fin 16384)) (hK : S.card = 4096) (hS : ∀ i ∈ S, ∀ j, j ∉ S → v j ≤ v i) :
    fin L (ix2 (0 : Fin 1) (0 : Fin 1)) = Ideal.div ((∑ n ∈ Sᶜ, v n : ℝ) : EReal) (Ideal.ofBits .f32 0x46800000#32) := by
  have hb := keys_apply L v hL
  obtain ⟨h1, h2, h3⟩ := thr_spec (keys L) v hb
  obtain ⟨n, hn⟩ := exists_rank h1 h2
  have hsum := sum_greatest h1 h2 S hK hS n hn
  unfold fin k0_pay2
  simp only [pointwise]
  rw [pay3_apply L v hL, pay9_apply L v (keys L) _ h3 hL hb, pay8_apply v (keys L) _ h3 hb, pay7_apply L v (keys L) _ hL hb n hn, ofBits_4096]
  refine congrArg (fun e => Ideal.div e (Ideal.ofBits .f32 0x46800000#32)) ?_
  rw [← EReal.coe_sub, ← EReal.coe_mul, ← EReal.coe_add, ← EReal.coe_sub]
  refine congrArg (fun r : ℝ => (r : EReal)) ?_
  have := Finset.sum_add_sum_compl S v
  push_cast at hsum
  linarith

end Cert.KernelIdeal.Final

end
-- ==== Proof.RefTop.lean ====
/- The maximum the reference takes of every sample's logits, at the idealized values: finite where the logits are. -/
module

public import proofs.«01_k».proof.Proof.RefRun
public import Idealize.ShloMosaic.Lib.Pointwise
public import Idealize.ShloMosaic.PureOps.Ideal.Laws

@[expose] public section

noncomputable section

namespace Cert.ReferenceIdeal.Loss

open Idealize.ShloMosaic Idealize.ShloMosaic.TcCoe Cert.ReferenceIdeal Cert.ReferenceIdeal.Gen

/-- The maximum of every sample's logits, from minus infinity. -/
def rowMax (x : FVec Ideal S16384x1000 .f32) : FVec Ideal S16384 .f32 := Host.reduce FloatOps.maximumf x (constant S_ .f32 0xFF800000#32) reducesTo_S16384x1000_S16384_d1 h_S_

/-- The maximum of every sample's logits, once more with minus infinity. -/
def top (x : FVec Ideal S16384x1000 .f32) : FVec Ideal S16384 .f32 := maximumf (broadcastInDim S16384 ![] bcast_S_S16384 (constant S_ .f32 0xFF800000#32)) (rowMax x)

/-- The greatest of finitely many finite values, with minus infinity, is finite. -/
theorem fold_max_coe {ι : Type} (s : Finset ι) (f : ι → EReal) (i0 : ι) (h0 : i0 ∈ s) (hf : ∀ i, ∃ r : ℝ, f i = (r : EReal)) :
    ∃ r : ℝ, s.fold max ⊥ f = (r : EReal) := by
  have h1 : s.fold max ⊥ f < ⊤ := by
    rw [Finset.fold_max_lt]
    refine ⟨bot_lt_top, fun i _ => ?_⟩
    obtain ⟨r, hr⟩ := hf i
    rw [hr]; exact EReal.coe_lt_top r
  have h2 : ⊥ < s.fold max ⊥ f := by
    rw [Finset.lt_fold_max]
    obtain ⟨r, hr⟩ := hf i0
    exact .inr ⟨i0, h0, by rw [hr]; exact EReal.bot_lt_coe r⟩
  exact ⟨_, (EReal.coe_toReal h1.ne h2.ne').symm⟩

/-- Minus infinity's word. -/
theorem ofBits_neg_inf : Ideal.ofBits .f32 0xFF800000#32 = ⊥ := by
  simp [Ideal.ofBits, Ideal.ieee]

/-- The axis the reference reduces. -/
theorem reduces1 : S16384x1000.Reduces [1] S16384 := by decide

/-- Any reduction by maximum from minus infinity over one axis of finite values is finite. -/
theorem reduce_max_coe {s t u : Shape} {a : Fin s.rank} (x : FVec Ideal s .f32) (init : FVec Ideal u .f32) (h' : s.ReducesTo [a] t) (h : s.Reduces [a] t)
    (hu : 0 < u.numel) (hi : ∀ i, init i = ⊥) (hx : ∀ i, ∃ r : ℝ, x i = (r : EReal)) (k0 : Fin (s.size a)) (j : t.Idx) :
    ∃ r : ℝ, Host.reduce FloatOps.maximumf x init h' hu j = (r : EReal) := by
  rw [Host.reduce_eq_fold_single (FloatOps.maximumf (F := Ideal) (φ := .f32)) x _ h' h hu j, hi]
  exact fold_max_coe _ _ k0 (Finset.mem_univ _) fun i => hx _

/-- A sample's maximum is finite where its logits are. -/
theorem rowMax_apply (x : FVec Ideal S16384x1000 .f32) (hx : ∀ i, ∃ r : ℝ, x i = (r : EReal)) (n : Fin 16384) : ∃ r : ℝ, rowMax x (ix1 n) = (r : EReal) := by
  unfold rowMax
  exact reduce_max_coe x _ _ reduces1 _ (fun _ => ofBits_neg_inf) hx ⟨0, by decide⟩ _

/-- A maximum with minus infinity on the left. -/
theorem max_bot {φ : FTy} {s : Shape} (a b : FVec Ideal s φ) (j : s.Idx) (h : a j = ⊥) : maximumf a b j = b j := by
  rw [maximumf_apply, h]
  exact max_eq_right bot_le

/-- A sample's maximum is finite where its logits are, once more with minus infinity. -/
theorem top_apply (x : FVec Ideal S16384x1000 .f32) (hx : ∀ i, ∃ r : ℝ, x i = (r : EReal)) (n : Fin 16384) : ∃ r : ℝ, top x (ix1 n) = (r : EReal) := by
  obtain ⟨r, hr⟩ := rowMax_apply x hx n
  have hb : (broadcastInDim S16384 ![] bcast_S_S16384 (constant (F := Ideal) S_ .f32 0xFF800000#32)) (ix1 n) = ⊥ := ofBits_neg_inf
  exact ⟨r, (max_bot _ (rowMax x) (ix1 n) hb).trans hr⟩

end Cert.ReferenceIdeal.Loss

end
-- ==== Proof.RefLoss.lean ====
/- The losses of the reference at the idealized values: at a sample whose logits are finite and whose label is a class, the logarithm of
   the sum of the exponentials of the logits, minus the label's logit. -/
module

public import proofs.«01_k».proof.Proof.RefRun
public import proofs.«01_k».proof.Proof.RefTop
public import Idealize.ShloMosaic.Lib.Pointwise
public import Idealize.ShloMosaic.PureOps.Ideal.Laws

@[expose] public section

noncomputable section

namespace Cert.ReferenceIdeal.Loss

open Idealize.ShloMosaic Idealize.ShloMosaic.TcCoe Cert.ReferenceIdeal Cert.ReferenceIdeal.Gen

/-- The sum of real numbers, taken among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The exponentials of the logits less their sample's maximum. -/
def shifted (x : FVec Ideal S16384x1000 .f32) : FVec Ideal S16384x1000 .f32 :=
  Host.exp (subf x (broadcastInDim S16384x1000 ![0, 1] bcast_S16384x1_S16384x1000_0_1 (broadcastInDim S16384x1 ![0] bcast_S16384_S16384x1_0 (top x))))

/-- The samples' losses. -/
def loss (x : FVec Ideal S16384x1000 .f32) (y : IVec S16384 32) : FVec Ideal S16384 .f32 :=
  Host.negf (Host.reduceAdd (mulf (uitofp .f32 (cmpi .eq (broadcastInDim S16384x1000 ![0, 1] bcast_S16384x1_S16384x1000_0_1 (broadcastInDim S16384x1 ![0] bcast_S16384_S16384x1_0 y)) (broadcastInDim S16384x1000 ![0, 1] bcast_S1x1000_S16384x1000_0_1 (iotaInDim S1x1000 32 1)))) (Host.log (Host.divf (shifted x) (broadcastInDim S16384x1000 ![0, 1] bcast_S16384x1_S16384x1000_0_1 (broadcastInDim S16384x1 ![0] bcast_S16384_S16384x1_0 (Host.reduceAdd (shifted x) (constant S_ .f32 0x00000000#32) reducesTo_S16384x1000_S16384_d1 h_S_)))))) (constant S_ .f32 0x00000000#32) reducesTo_S16384x1000_S16384_d1 h_S_)

/-- The reference's result from its losses. -/
def rest (z : FVec Ideal S16384 .f32) : FVec Ideal S_ .f32 :=
  Host.divf (Host.reduceAdd (Host.scatter scatter_S16384_S4096x1_S4096_n_0_0_1 (fun _ b => b) z (broadcastInDim S4096x1 ![0] bcast_S4096_S4096x1_0 (select (cmpi .slt ((Host.topK S4096 0 (FloatOps.cmpfTotal .gt) z sliceFits_S16384_S4096).2) (broadcastInDim S4096 ![] bcast_S_S4096 (constantI S_ 32 0#32))) (addi ((Host.topK S4096 0 (FloatOps.cmpfTotal .gt) z sliceFits_S16384_S4096).2) (broadcastInDim S4096 ![] bcast_S_S4096 (constantI S_ 32 16384#32))) ((Host.topK S4096 0 (FloatOps.cmpfTotal .gt) z sliceFits_S16384_S4096).2))) (broadcastInDim S4096 ![] bcast_S_S4096 (constant S_ .f32 0x00000000#32))) (constant S_ .f32 0x00000000#32) reducesTo_S16384_S_d0 h_S_) (constant S_ .f32 0x46800000#32)

/-- The reference's result is its last part applied to the losses. -/
theorem res_eq (m : (ℓ : Loc nD τ sig) → Buf (Elt Ideal) ℓ) (c : Dev nD) :
    Value.res_main_v25 m c = rest (loss (m ((c.tc : Thread nD τ).loc main_arg0)) (m ((c.tc : Thread nD τ).loc main_arg1))) := rfl

/-- An exponential at its sample and class. -/
theorem shifted_apply (x : FVec Ideal S16384x1000 .f32) (n : Fin 16384) (c : Fin 1000) : shifted x (ix2 n c) = Ideal.exp (x (ix2 n c) - top x (ix1 n)) := by
  unfold shifted
  simp only [pointwise]
  rfl

/-- A true comparison as a float is one. -/
theorem uitofp_true (w : BitVec 1) (h : w = 1#1) : (FloatOps.uitofp (F := Ideal) .f32 w : EReal) = ((1 : ℝ) : EReal) := by
  subst h
  show ((((1#1 : BitVec 1).toNat : ℕ) : ℝ) : EReal) = _
  simp

/-- A false comparison as a float is zero. -/
theorem uitofp_false (w : BitVec 1) (h : w = 0#1) : (FloatOps.uitofp (F := Ideal) .f32 w : EReal) = ((0 : ℝ) : EReal) := by
  subst h
  show ((((0#1 : BitVec 1).toNat : ℕ) : ℝ) : EReal) = _
  simp

/-- A sample's loss: `r` are its logits, `b` its label. -/
theorem loss_apply (x : FVec Ideal S16384x1000 .f32) (y : IVec S16384 32) (r : Fin 16384 → Fin 1000 → ℝ) (b : Fin 16384 → Fin 1000)
    (hx : ∀ n c, x (ix2 n c) = ((r n c : ℝ) : EReal)) (hy : ∀ n, y (ix1 n) = BitVec.ofNat 32 (b n).val) (n : Fin 16384) :
    loss x y (ix1 n) = ((Real.log (∑ c, Real.exp (r n c)) - r n (b n) : ℝ) : EReal) := by
  obtain ⟨t, ht⟩ := top_apply x (fun i => ⟨r (i 0) (i 1), (congrArg x (eq_ix2 i)).trans (hx _ _)⟩) n
  have he : ∀ c, shifted x (ix2 n c) = ((Real.exp (r n c - t) : ℝ) : EReal) := by
    intro c
    rw [shifted_apply, hx, ht, ← EReal.coe_sub, Ideal.exp_coe]
  have hd : ∑ c, shifted x (ix2 n c) = ((∑ c, Real.exp (r n c - t) : ℝ) : EReal) := by
    rw [Finset.sum_congr rfl fun c _ => he c, sum_coe]
  have hpos : 0 < ∑ c : Fin 1000, Real.exp (r n c - t) := Finset.sum_pos (fun c _ => Real.exp_pos _) ⟨b n, Finset.mem_univ _⟩
  have hsum : ∑ c, Real.exp (r n c - t) = Real.exp (-t) * ∑ c, Real.exp (r n c) := by
    rw [Finset.mul_sum]
    exact Finset.sum_congr rfl fun c _ => by rw [← Real.exp_add, neg_add_eq_sub]
  have hpos' : 0 < ∑ c : Fin 1000, Real.exp (r n c) := Finset.sum_pos (fun c _ => Real.exp_pos _) ⟨b n, Finset.mem_univ _⟩
  have hl : ∀ c, Ideal.log (Ideal.div (shifted x (ix2 n c)) (0 + ∑ c, shifted x (ix2 n c)))
      = ((r n c - Real.log (∑ c, Real.exp (r n c)) : ℝ) : EReal) := by
    intro c
    rw [zero_add, hd, he, Ideal.div_coe hpos.ne', ← EReal.coe_mul, Ideal.log_coe, if_neg (not_le.mpr (mul_pos (Real.exp_pos _) (one_div_pos.mpr hpos))), hsum]
    refine congrArg (fun r : ℝ => (r : EReal)) ?_
    rw [mul_one_div, Real.log_div (Real.exp_pos _).ne' (mul_pos (Real.exp_pos _) hpos').ne', Real.log_mul (Real.exp_pos _).ne' hpos'.ne', Real.log_exp, Real.log_exp]
    ring
  have hone : ∀ c : Fin 1000, (FloatOps.uitofp (F := Ideal) .f32 (IntOp.cmpi CmpIPredicate.eq (y (ix1 n)) (BitVec.ofNat 32 c.val)) : EReal)
      = (((if c = b n then 1 else 0 : ℝ)) : EReal) := by
    intro c
    rw [hy]
    have h1 := c.isLt
    have h2 := (b n).isLt
    by_cases h : c = b n
    · rw [if_pos h, h]
      exact uitofp_true _ (by show BitVec.ofBool (_ == _) = _; rw [beq_self_eq_true]; rfl)
    · have hne : BitVec.ofNat 32 (b n).val ≠ BitVec.ofNat 32 c.val := fun hh => by
        have := congrArg BitVec.toNat hh
        simp only [BitVec.toNat_ofNat] at this
        exact h (Fin.ext (by omega))
      rw [if_neg h]
      exact uitofp_false _ (by show BitVec.ofBool (_ == _) = _; rw [beq_eq_false_iff_ne.mpr hne]; rfl)
  have hterm : ∀ c : Fin 1000, (FloatOps.uitofp (F := Ideal) .f32 (IntOp.cmpi CmpIPredicate.eq (y (ix1 n)) (BitVec.ofNat 32 c.val)) : EReal)
        * Ideal.log (Ideal.div (shifted x (ix2 n c)) (0 + ∑ c, shifted x (ix2 n c)))
      = (((if c = b n then r n c - Real.log (∑ c, Real.exp (r n c)) else 0 : ℝ)) : EReal) := by
    intro c
    rw [hl, hone, ← EReal.coe_mul, ite_mul, one_mul, zero_mul]
  unfold loss
  simp only [pointwise]
  show -(0 + ∑ c : Fin 1000, (FloatOps.uitofp (F := Ideal) .f32 (IntOp.cmpi CmpIPredicate.eq (y (ix1 n)) (BitVec.ofNat 32 c.val)) : EReal)
        * Ideal.log (Ideal.div (shifted x (ix2 n c)) (0 + ∑ c, shifted x (ix2 n c)))) = _
  rw [Finset.sum_congr rfl fun c _ => hterm c, sum_coe, Finset.sum_ite_eq' Finset.univ (b n), if_pos (Finset.mem_univ _), zero_add, ← EReal.coe_neg]
  refine congrArg (fun r : ℝ => (r : EReal)) ?_
  ring

end Cert.ReferenceIdeal.Loss

end
-- ==== Proof.RefTopK.lean ====
/- The reference's selection at the idealized values: the indices of the 4096 greatest losses, the losses with zeros written there, and the
   mean of what is left. -/
module

public import proofs.«01_k».proof.Proof.RefLoss
public import Idealize.ShloMosaic.Lib.SortFacts
public import Idealize.ShloMosaic.Lib.Routing.OpsSet

@[expose] public section

noncomputable section

namespace Cert.ReferenceIdeal.Loss

open Idealize.ShloMosaic Idealize.ShloMosaic.TcCoe Cert.ReferenceIdeal Cert.ReferenceIdeal.Gen

/-- The order in which the selection puts the positions of a vector: greater entries first. -/
def order {n : ℕ} (z : FVec Ideal ⟨1, ![n]⟩ .f32) : Fin n → Fin n :=
  sortedFrom fun a b => FloatOps.cmpfTotal (F := Ideal) .gt (z (ix1 a)) (z (ix1 b)) == 1#1

/-- The comparison the selection sorts by. -/
theorem gt_iff (a b : EReal) : (FloatOps.cmpfTotal (F := Ideal) (φ := .f32) .gt a b == 1#1) = decide (b < a) := by
  show (BitVec.ofBool (decide (b < a)) == 1#1) = _
  cases decide (b < a) <;> rfl

/-- No entry is strictly below a later one in the order. -/
theorem order_sorted {n : ℕ} (z : FVec Ideal ⟨1, ![n]⟩ .f32) (i j : Fin n) (hij : i < j) : (z (ix1 (order z j)) : EReal) ≤ z (ix1 (order z i)) := by
  have h := sortedFrom_noInversion
    (fun a b : Fin n => FloatOps.cmpfTotal (F := Ideal) .gt (z (ix1 a)) (z (ix1 b)) == 1#1)
    (fun a b : Fin n => FloatOps.cmpfTotal (F := Ideal) .gt (z (ix1 a)) (z (ix1 b)) == 1#1)
    (fun a b hab => by rw [gt_iff] at hab ⊢; exact decide_eq_false (not_lt.mpr (of_decide_eq_true hab).le))
    (fun _ _ h => h)
    (fun a b c hab hbc => by
      rw [gt_iff] at hab hbc ⊢
      exact decide_eq_false (not_lt.mpr ((not_lt.mp (of_decide_eq_false hab)).trans (not_lt.mp (of_decide_eq_false hbc)))))
    i j hij
  rw [gt_iff] at h
  exact not_lt.mp (of_decide_eq_false h)

/-- The index the selection returns at place `i` of `k`. -/
theorem topK_apply {n k : ℕ} (z : FVec Ideal ⟨1, ![n]⟩ .f32) (h : (⟨1, ![n]⟩ : Shape).Slices (fun _ => 0) ⟨1, ![k]⟩) (hk : k ≤ n) (i : Fin k) :
    (Host.topK ⟨1, ![k]⟩ 0 (FloatOps.cmpfTotal (F := Ideal) .gt) z h).2 (ix1 i) = BitVec.ofNat 32 (order z (i.castLE hk)).val := by
  have e : ∀ (j : (⟨1, ![n]⟩ : Shape).Idx) (a : Fin n), j.along (0 : Fin 1) a = ix1 a := by
    intro j a
    funext b
    obtain rfl : b = 0 := Subsingleton.elim _ _
    exact Function.update_self ..
  have key : ∀ j : (⟨1, ![n]⟩ : Shape).Idx, (j.along (0 : Fin 1) (sortedFrom (n := n) (fun a b : Fin n =>
      FloatOps.cmpfTotal (F := Ideal) .gt (z (j.along (0 : Fin 1) a)) (z (j.along (0 : Fin 1) b)) == 1#1) (j (0 : Fin 1)))) (0 : Fin 1) = order z (j (0 : Fin 1)) := by
    intro j
    simp only [e]
    rfl
  have hj : ((⟨0 + i.val, by have := i.isLt; omega⟩ : Fin n)) = i.castLE hk := Fin.ext (by simp)
  rw [← hj]
  unfold Host.topK Host.sort2
  exact congrArg (fun q : Fin n => BitVec.ofNat 32 q.val) (key fun a => ⟨0 + ((ix1 i : (⟨1, ![k]⟩ : Shape).Idx) (a.cast h.1.symm)).val,
    Nat.lt_of_lt_of_le (Nat.add_lt_add_left ((ix1 i : (⟨1, ![k]⟩ : Shape).Idx) _).isLt _) (h.2 a)⟩)

/-- The positions of the 4096 greatest losses. -/
def chosen (z : FVec Ideal S16384 .f32) : Finset (Fin 16384) := Finset.univ.image fun i : Fin 4096 => order (n := 16384) z (i.castLE (by decide))

/-- They are 4096. -/
theorem chosen_card (z : FVec Ideal S16384 .f32) : (chosen z).card = 4096 := by
  unfold chosen
  rw [Finset.card_image_of_injective]
  · simp
  · intro a b h
    exact Fin.castLE_injective _ (sortedFrom_injective _ h)

/-- No other loss is above one of them. -/
theorem chosen_greatest (z : FVec Ideal S16384 .f32) (i : Fin 16384) (hi : i ∈ chosen z) (j : Fin 16384) (hj : j ∉ chosen z) :
    (z (ix1 j) : EReal) ≤ z (ix1 i) := by
  obtain ⟨a, -, rfl⟩ := Finset.mem_image.mp hi
  obtain ⟨b, rfl⟩ : ∃ b, order (n := 16384) z b = j := sortedFrom_surjective _ j
  refine order_sorted (n := 16384) z _ _ ?_
  by_contra h
  have hb : b.val < 4096 := lt_of_le_of_lt (not_lt.mp h) a.isLt
  exact hj (Finset.mem_image.mpr ⟨⟨b.val, hb⟩, Finset.mem_univ _, rfl⟩)

/-- Where an update of the reference's scatter lands: at the position its index word, read signed, names. -/
theorem lands (idx : IVec S4096x1 32) (i : Fin 4096) (x : Fin 16384) :
    scatter_S16384_S4096x1_S4096_n_0_0_1.resultIdx? (ix1 i) idx = some (ix1 x) ↔ (idx (ix2 i (0 : Fin 1))).toInt = (x.val : Int) := by
  refine (Routing.resultIdx?_ix1 scatter_S16384_S4096x1_S4096_n_0_0_1 (ix1 i) idx x).trans ?_
  have h1 : scatter_S16384_S4096x1_S4096_n_0_0_1.window (ix1 i) 0 = 0 := rfl
  have h2 : scatter_S16384_S4096x1_S4096_n_0_0_1.start (ix1 i) idx 0 = (idx (ix2 i (0 : Fin 1))).toInt := by
    show (idx _).toInt = _
    congr 2
    funext b
    fin_cases b <;> rfl
  rw [h1, h2]
  simp

/-- Indices as the scatter's words: a negative one counted from the end. -/
def wordsOf (I : IVec S4096 32) : IVec S4096x1 32 :=
  broadcastInDim S4096x1 ![0] bcast_S4096_S4096x1_0 (select (cmpi .slt I (broadcastInDim S4096 ![] bcast_S_S4096 (constantI S_ 32 0#32))) (addi I (broadcastInDim S4096 ![] bcast_S_S4096 (constantI S_ 32 16384#32))) I)

/-- A word from its index. -/
theorem wordsOf_apply (I : IVec S4096 32) (i : Fin 4096) :
    wordsOf I (ix2 i (0 : Fin 1)) = Scalar.select (IntOp.cmpi .slt (I (ix1 i)) 0#32) (IntOp.addi (I (ix1 i)) 16384#32) (I (ix1 i)) := by
  unfold wordsOf
  simp only [pointwise]
  rfl

/-- The words the scatter writes at: the selection's indices. -/
def words (z : FVec Ideal S16384 .f32) : IVec S4096x1 32 := wordsOf (Host.topK S4096 0 (FloatOps.cmpfTotal .gt) z sliceFits_S16384_S4096).2

/-- An index word of the selection is below 16384. -/
theorem index_lt (w : BitVec 32) (q : Fin 16384) (h : w = BitVec.ofNat 32 q.val) : w.toNat < 2 ^ (32 - 1) := by
  have := q.isLt
  rw [h, BitVec.toNat_ofNat]
  omega

/-- No index is negative: a word is the position it names. -/
theorem words_apply (z : FVec Ideal S16384 .f32) (i : Fin 4096) :
    words z (ix2 i (0 : Fin 1)) = BitVec.ofNat 32 (order (n := 16384) z (i.castLE (by decide))).val := by
  have hI := topK_apply (n := 16384) (k := 4096) z sliceFits_S16384_S4096 (by decide) i
  unfold words
  rw [wordsOf_apply]
  generalize (Host.topK S4096 0 (FloatOps.cmpfTotal (F := Ideal) .gt) z sliceFits_S16384_S4096).2 = I at hI ⊢
  rw [← hI]
  exact Routing.wrap_of_lt _ _ (index_lt _ _ hI)

/-- A word read signed. -/
theorem words_toInt (z : FVec Ideal S16384 .f32) (i : Fin 4096) :
    (words z (ix2 i (0 : Fin 1))).toInt = ((order (n := 16384) z (i.castLE (by decide))).val : Int) := by
  have hlt := (order (n := 16384) z (i.castLE (by decide))).isLt
  rw [words_apply, BitVec.toInt_eq_toNat_cond, BitVec.toNat_ofNat]
  omega

/-- The losses with zeros at the greatest 4096. -/
def kept (z : FVec Ideal S16384 .f32) : FVec Ideal S16384 .f32 :=
  Host.scatter scatter_S16384_S4096x1_S4096_n_0_0_1 (fun _ b => b) z (words z) (broadcastInDim S4096 ![] bcast_S_S4096 (constant S_ .f32 0x00000000#32))

/-- The chosen entries are zero, the others are as they were. -/
theorem kept_apply (z : FVec Ideal S16384 .f32) (n : Fin 16384) : kept z (ix1 n) = if n ∈ chosen z then (0 : EReal) else z (ix1 n) := by
  by_cases h : n ∈ chosen z
  · rw [if_pos h]
    obtain ⟨i, -, hi⟩ := Finset.mem_image.mp h
    refine Routing.scatter_set_hit _ z (words z) _ (ix1 n) (0 : EReal) (fun _ _ => Ideal.ofBits_zero_f32) (ix1 i) ((lands (words z) i n).mpr ?_)
    rw [words_toInt, hi]
  · rw [if_neg h]
    refine Routing.scatter_set_miss _ z (words z) _ (ix1 n) fun k hk => h ?_
    obtain ⟨i, rfl⟩ : ∃ i : Fin 4096, k = ix1 i := ⟨k 0, eq_ix1 k⟩
    have := (lands (words z) i n).mp hk
    rw [words_toInt] at this
    exact Finset.mem_image.mpr ⟨i, Finset.mem_univ _, Fin.ext (by exact_mod_cast this)⟩

/-- The reference's result from finite losses: the sum of the losses outside the chosen, over 16384. -/
theorem rest_apply (z : FVec Ideal S16384 .f32) (v : Fin 16384 → ℝ) (hz : ∀ n, z (ix1 n) = ((v n : ℝ) : EReal)) (j : S_.Idx) :
    rest z j = Ideal.div ((∑ n ∈ (chosen z)ᶜ, v n : ℝ) : EReal) (Ideal.ofBits .f32 0x46800000#32) := by
  have hr : rest z = Host.divf (Host.reduceAdd (kept z) (constant S_ .f32 0x00000000#32) reducesTo_S16384_S_d0 h_S_) (constant S_ .f32 0x46800000#32) := rfl
  have hk : ∀ n, kept z (ix1 n) = ((if n ∈ (chosen z)ᶜ then v n else 0 : ℝ) : EReal) := by
    intro n
    rw [kept_apply, hz]
    by_cases h : n ∈ chosen z
    · rw [if_pos h, if_neg (by simpa using h)]; rfl
    · rw [if_neg h, if_pos (by simpa using h)]
  rw [hr]
  simp only [pointwise]
  refine congrArg (fun e => Ideal.div e (Ideal.ofBits .f32 0x46800000#32)) ?_
  rw [Finset.sum_congr rfl fun n _ => hk n, sum_coe, Finset.sum_ite_mem, Finset.univ_inter, zero_add]

end Cert.ReferenceIdeal.Loss

end
-- ==== Proof.Agree.lean ====
/- The kernel's value and the reference's, over the same real logits and class labels: both are the sum of the losses outside a set of 4096
   greatest ones, divided by the number of samples. -/
module

public import proofs.«01_k».proof.Proof.Blocks
public import proofs.«01_k».proof.Proof.FinVal
public import proofs.«01_k».proof.Proof.RefLoss
public import proofs.«01_k».proof.Proof.RefTopK

@[expose] public section

noncomputable section

namespace Cert.Agree

open Idealize.ShloMosaic Cert.KernelIdeal.Final

/-- Two sides that are given the losses of the same samples — the kernel as a scratch of sixteen rows, the reference as one array — end
at the same number. -/
theorem ends_equal (L : Vec Ideal Cert.KernelIdeal.S16x1024 .f32) (z : FVec Ideal Cert.ReferenceIdeal.S16384 .f32) (v : Fin 16384 → ℝ)
    (hL : ∀ i l, L (ix2 i l) = ((v (place i l) : ℝ) : EReal)) (hz : ∀ n, z (ix1 n) = ((v n : ℝ) : EReal)) (j : Cert.ReferenceIdeal.S_.Idx) :
    Cert.ReferenceIdeal.Loss.rest z j = Cert.KernelIdeal.Body.fin L (ix2 (0 : Fin 1) (0 : Fin 1)) := by
  rw [Cert.ReferenceIdeal.Loss.rest_apply z v hz j]
  refine (fin_apply L v hL (Cert.ReferenceIdeal.Loss.chosen z) (Cert.ReferenceIdeal.Loss.chosen_card z) fun i hi k hk => ?_).symm
  have h := Cert.ReferenceIdeal.Loss.chosen_greatest z i hi k hk
  rw [hz, hz] at h
  exact EReal.coe_le_coe_iff.1 h

/-- From the same arguments, with real logits and class labels, the reference's result is the kernel's. -/
theorem values_equal (m : (ℓ : Loc Cert.KernelIdeal.nD Cert.KernelIdeal.τ Cert.KernelIdeal.sig) → Buf (Elt Ideal) ℓ) (c : Dev Cert.KernelIdeal.nD)
    (x : FVec Ideal Cert.ReferenceIdeal.S16384x1000 .f32) (y : IVec Cert.ReferenceIdeal.S16384 32)
    (ex : x = m ((c.tc : Thread Cert.KernelIdeal.nD Cert.KernelIdeal.τ).loc Cert.KernelIdeal.main_arg0))
    (ey : y = m ((c.tc : Thread Cert.KernelIdeal.nD Cert.KernelIdeal.τ).loc Cert.KernelIdeal.main_arg1))
    (r : Fin 16384 → Fin 1000 → ℝ) (b : Fin 16384 → Fin 1000)
    (hx : ∀ n k, x (ix2 n k) = ((r n k : ℝ) : EReal)) (hy : ∀ n, y (ix1 n) = BitVec.ofNat 32 (b n).val) :
    Cert.ReferenceIdeal.Loss.rest (Cert.ReferenceIdeal.Loss.loss x y)
      = fun _ => Cert.KernelIdeal.Body.fin (Cert.KernelIdeal.Launch.want m c) (ix2 (0 : Fin 1) (0 : Fin 1)) :=
  funext fun j => ends_equal _ _ (fun n => Real.log (∑ k, Real.exp (r n k)) - r n (b n))
    (Cert.KernelIdeal.Blocks.want_apply m c r b (fun n k => (congrFun ex _).symm.trans (hx n k)) fun n => (congrFun ey _).symm.trans (hy n))
    (Cert.ReferenceIdeal.Loss.loss_apply x y r b hx hy) j

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_drawn
public import proofs.«01_k».proof.Proof.KLaunch
public import proofs.«01_k».proof.Proof.Launch
public import proofs.«01_k».proof.Proof.RefRun
public import proofs.«01_k».proof.Proof.Pre
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The idealized kernel runs and leaves its arguments and its counters as launched. -/
theorem kernel_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (Cert.KernelIdeal.Launch.run m g)

/-- The reference runs and leaves its arguments and its counters as launched. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => (h.1 c).2, h.2⟩) (Cert.ReferenceIdeal.RefRun.run m g)

/-- Under the precondition the idealized kernel and the reference end with equal results. -/
theorem equal : Cert.algebraic_KernelIdeal_ReferenceIdeal_pre_drawn := fun m g m' g' hpre hag => by
  refine ⟨fun c => fun _ => Cert.KernelIdeal.Body.fin (Cert.KernelIdeal.Launch.want m c) (ix2 (0 : Fin 1) (0 : Fin 1)),
    (θ_run _ _ _).mono (fun _ h => h.1) (Cert.KernelIdeal.Launch.run m g),
    (θ_run _ _ _).mono (fun _ h c => ⟨(h.1 c).1.trans ?_, (h.1 c).2⟩) (Cert.ReferenceIdeal.RefRun.run m' g')⟩
  obtain ⟨r, b, hr, hb⟩ := Cert.Pre_drawn.Read.read _ _ (hpre c)
  rw [Cert.ReferenceIdeal.Loss.res_eq]
  exact Cert.Agree.values_equal m c _ _ (hag c).1 (hag c).2 r b (fun n k => (congrFun (hag c).1 _).trans (hr n k)) fun n => (congrFun (hag c).2 _).trans (hb n)

/-- Every claim of the certificate. -/
theorem claim : Cert.Claim := ⟨Cert.Kernel.Gen.facts, Cert.KernelIdeal.Gen.facts, Cert.ReferenceIdeal.Gen.facts, Cert.Pre_drawn.Gen.facts,
  fun m g _ => (θ_run _ _ _).mono (fun _ h => ⟨fun c => (h.1 c).2, h.2⟩) (Cert.Kernel.Launch.run m g),
  fun m g _ => kernel_frame m g, fun m g _ => kernel_frame m g,
  fun m g _ => reference_frame m g, fun m g _ => reference_frame m g, trivial, equal⟩

end Cert.Proof

end
